-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x768 : Shape := ⟨3, ![1, 2048, 768]⟩
abbrev S8x768 : Shape := ⟨2, ![8, 768]⟩
abbrev S1x1536x768 : Shape := ⟨3, ![1, 1536, 768]⟩
abbrev S1x768x1536 : Shape := ⟨3, ![1, 768, 1536]⟩
abbrev S8x1536x768 : Shape := ⟨3, ![8, 1536, 768]⟩
abbrev S8x768x1536 : Shape := ⟨3, ![8, 768, 1536]⟩
abbrev S2048x768 : Shape := ⟨2, ![2048, 768]⟩
abbrev S1x2048 : Shape := ⟨2, ![1, 2048]⟩
abbrev S1x25 : Shape := ⟨2, ![1, 25]⟩
abbrev S8x2048 : Shape := ⟨2, ![8, 2048]⟩
abbrev S2048 : Shape := ⟨1, ![2048]⟩
abbrev S8x4096 : Shape := ⟨2, ![8, 4096]⟩
abbrev S256x128 : Shape := ⟨2, ![256, 128]⟩
abbrev S128x128 : Shape := ⟨2, ![128, 128]⟩
abbrev S256x1 : Shape := ⟨2, ![256, 1]⟩
abbrev S8x32 : Shape := ⟨2, ![8, 32]⟩
abbrev S32x32 : Shape := ⟨2, ![32, 32]⟩
abbrev S8x32x128 : Shape := ⟨3, ![8, 32, 128]⟩
abbrev S8x32x1 : Shape := ⟨3, ![8, 32, 1]⟩
abbrev S8x1 : Shape := ⟨2, ![8, 1]⟩
abbrev S8x8 : Shape := ⟨2, ![8, 8]⟩
abbrev S8x25 : Shape := ⟨2, ![8, 25]⟩
abbrev S25 : Shape := ⟨1, ![25]⟩
abbrev S1x1 : Shape := ⟨2, ![1, 1]⟩
abbrev S256x768 : Shape := ⟨2, ![256, 768]⟩
abbrev S1536x768 : Shape := ⟨2, ![1536, 768]⟩
abbrev S256x1536 : Shape := ⟨2, ![256, 1536]⟩
abbrev S768x1536 : Shape := ⟨2, ![768, 1536]⟩
abbrev S1 : Shape := ⟨1, ![1]⟩
abbrev S6144x768 : Shape := ⟨2, ![6144, 768]⟩
abbrev S256x2048 : Shape := ⟨2, ![256, 2048]⟩
abbrev S256 : Shape := ⟨1, ![256]⟩
abbrev S1x256 : Shape := ⟨2, ![1, 256]⟩
abbrev S1x6144 : Shape := ⟨2, ![1, 6144]⟩
abbrev S256x6144 : Shape := ⟨2, ![256, 6144]⟩

abbrev nBuf : Space → Nat
  | .hbm => 19
  | .vmem => 30
  | .smem => 1
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S1x1536x768, .f32⟩
  | .hbm, ⟨3, _⟩ => ⟨S1x1536x768, .f32⟩
  | .hbm, ⟨4, _⟩ => ⟨S1x768x1536, .f32⟩
  | .hbm, ⟨5, _⟩ => ⟨S8x1536x768, .f32⟩
  | .hbm, ⟨6, _⟩ => ⟨S8x1536x768, .f32⟩
  | .hbm, ⟨7, _⟩ => ⟨S8x768x1536, .f32⟩
  | .hbm, ⟨8, _⟩ => ⟨S2048x768, .f32⟩
  | .hbm, ⟨9, _⟩ => ⟨S1x2048, .i32⟩
  | .hbm, ⟨10, _⟩ => ⟨S1x2048, .i32⟩
  | .hbm, ⟨11, _⟩ => ⟨S1x2048, .f32⟩
  | .hbm, ⟨12, _⟩ => ⟨S1x2048, .f32⟩
  | .hbm, ⟨13, _⟩ => ⟨S1x25, .i32⟩
  | .hbm, ⟨14, _⟩ => ⟨S2048x768, .bf16⟩
  | .hbm, ⟨15, _⟩ => ⟨S2048x768, .f32⟩
  | .hbm, ⟨16, _⟩ => ⟨S2048x768, .bf16⟩
  | .hbm, ⟨17, _⟩ => ⟨S2048x768, .f32⟩
  | .hbm, ⟨18, _⟩ => ⟨S1x2048x768, .f32⟩
  | .local _ .vmem, ⟨0, _⟩ => ⟨S2048x768, .f32⟩
  | .local _ .vmem, ⟨1, _⟩ => ⟨S8x768, .f32⟩
  | .local _ .vmem, ⟨2, _⟩ => ⟨S1x2048, .i32⟩
  | .local _ .vmem, ⟨3, _⟩ => ⟨S1x2048, .i32⟩
  | .local _ .vmem, ⟨4, _⟩ => ⟨S1x2048, .f32⟩
  | .local _ .vmem, ⟨5, _⟩ => ⟨S1x2048, .f32⟩
  | .local _ .vmem, ⟨6, _⟩ => ⟨S1x25, .i32⟩
  | .local _ .vmem, ⟨7, _⟩ => ⟨S256x768, .bf16⟩
  | .local _ .vmem, ⟨8, _⟩ => ⟨S256x768, .bf16⟩
  | .local _ .vmem, ⟨9, _⟩ => ⟨S1x1536x768, .f32⟩
  | .local _ .vmem, ⟨10, _⟩ => ⟨S1x1536x768, .f32⟩
  | .local _ .vmem, ⟨11, _⟩ => ⟨S1x768x1536, .f32⟩
  | .local _ .vmem, ⟨12, _⟩ => ⟨S256x768, .f32⟩
  | .local _ .vmem, ⟨13, _⟩ => ⟨S256x768, .f32⟩
  | .local _ .vmem, ⟨14, _⟩ => ⟨S2048x768, .bf16⟩
  | .local _ .vmem, ⟨15, _⟩ => ⟨S1x2048, .i32⟩
  | .local _ .vmem, ⟨16, _⟩ => ⟨S1x2048, .i32⟩
  | .local _ .vmem, ⟨17, _⟩ => ⟨S1x2048, .f32⟩
  | .local _ .vmem, ⟨18, _⟩ => ⟨S1x2048, .f32⟩
  | .local _ .vmem, ⟨19, _⟩ => ⟨S1x1536x768, .f32⟩
  | .local _ .vmem, ⟨20, _⟩ => ⟨S1x1536x768, .f32⟩
  | .local _ .vmem, ⟨21, _⟩ => ⟨S1x1536x768, .f32⟩
  | .local _ .vmem, ⟨22, _⟩ => ⟨S1x1536x768, .f32⟩
  | .local _ .vmem, ⟨23, _⟩ => ⟨S1x768x1536, .f32⟩
  | .local _ .vmem, ⟨24, _⟩ => ⟨S1x768x1536, .f32⟩
  | .local _ .vmem, ⟨25, _⟩ => ⟨S256x768, .f32⟩
  | .local _ .vmem, ⟨26, _⟩ => ⟨S256x768, .f32⟩
  | .local _ .vmem, ⟨27, _⟩ => ⟨S256x768, .f32⟩
  | .local _ .vmem, ⟨28, _⟩ => ⟨S256x768, .f32⟩
  | .local _ .vmem, ⟨29, _⟩ => ⟨S6144x768, .bf16⟩
  | .local _ .smem, ⟨0, _⟩ => ⟨S25, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v2 : Ref sig .tc := ⟨.hbm, 14, rfl⟩
abbrev main_v3 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg6_1 : Ref sig .tc := ⟨.vmem, 22, rfl⟩
abbrev cc2_stg7_0 : Ref sig .tc := ⟨.vmem, 23, rfl⟩
abbrev cc2_stg7_1 : Ref sig .tc := ⟨.vmem, 24, rfl⟩
abbrev cc2_stg8_0 : Ref sig .tc := ⟨.vmem, 25, rfl⟩
abbrev cc2_stg8_1 : Ref sig .tc := ⟨.vmem, 26, rfl⟩
abbrev cc2_stg9_0 : Ref sig .tc := ⟨.vmem, 27, rfl⟩
abbrev cc2_stg9_1 : Ref sig .tc := ⟨.vmem, 28, rfl⟩
abbrev cc2_scratch0 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc2_sem6_0 : DmaSem sig := 21
abbrev cc2_sem6_1 : DmaSem sig := 22
abbrev cc2_sem7_0 : DmaSem sig := 23
abbrev cc2_sem7_1 : DmaSem sig := 24
abbrev cc2_sem8_0 : DmaSem sig := 25
abbrev cc2_sem8_1 : DmaSem sig := 26
abbrev cc2_sem9_0 : DmaSem sig := 27
abbrev cc2_sem9_1 : DmaSem sig := 28

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x25 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1536x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1536x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x768x1536 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

abbrev pre2 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let c23_i32 : BitVec 32 := 23#32
  let v0 : BitVec 32 := Scalar.minsi arg0 c23_i32
  let v1 : Index := Scalar.indexCast v0
  ![v1.toNat]
def k2_off2 (i : grid2.Coords) : Fin 2 → Nat :=
  let arg0 : BitVec 32 := BitVec.ofNat 32 (i 0).val
  let c256_i32_34 : BitVec 32 := 256#32
  let v75 : BitVec 32 := Scalar.muli arg0 c256_i32_34
  let v76 : Index := Scalar.indexCast v75
  let c0_35 : Index := 0#32
  ![v76.toNat, 0]
def k2_cond1 (i : grid2.Coords) (v1 : BitVec 32) : BitVec 1 :=
  let arg0 : BitVec 32 := BitVec.ofNat 32 (i 0).val
  let c24_i32 : BitVec 32 := 24#32
  let v0 : BitVec 1 := Scalar.cmpi .slt arg0 c24_i32
  let v2 : BitVec 1 := Scalar.cmpi .slt arg0 v1
  let v3 : BitVec 1 := Scalar.andi v0 v2
  let v4 : BitVec 32 := Scalar.extui v3
  let c0_i32 : BitVec 32 := 0#32
  let v5 : BitVec 1 := Scalar.cmpi .ne v4 c0_i32
  v5

def k2_chk1 (i : grid2.Coords) (v1 : BitVec 32) : Prop :=
  (∀ (k2_h1 : k2_cond1 i v1 = 1#1), ∀ a, (k2_off2 i) a + S256x768.size a ≤ S6144x768.size a) ∧
  (∀ (k2_h1 : k2_cond1 i v1 = 1#1), ∀ (hinb : ∀ a, (k2_off2 i) a + S256x768.size a ≤ S6144x768.size a), (Rect.unit (s := S6144x768) (k2_off2 i) S256x768.size hinb).PackedRows (EltTy.packing .bf16))
theorem k2_off2_inb : ∀ (i : grid2.Coords) (v1 : BitVec 32) (k2_hw1 : k2_chk1 i v1), ∀ (k2_h1 : k2_cond1 i v1 = 1#1), ∀ a, (k2_off2 i) a + S256x768.size a ≤ S6144x768.size a := fun i v1 k2_hw1 k2_h1 => k2_hw1.1 k2_h1
theorem k2_off2_packedbf16 : ∀ (i : grid2.Coords) (v1 : BitVec 32) (k2_hw1 : k2_chk1 i v1), ∀ (k2_h1 : k2_cond1 i v1 = 1#1), (Rect.unit (s := S6144x768) (k2_off2 i) S256x768.size (k2_off2_inb i v1 k2_hw1 k2_h1)).PackedRows (EltTy.packing .bf16) := fun i v1 k2_hw1 k2_h1 => k2_hw1.2 k2_h1 (k2_off2_inb i v1 k2_hw1 k2_h1)

def k2_off3 (i : grid2.Coords) : Fin 2 → Nat :=
  let arg0 : BitVec 32 := BitVec.ofNat 32 (i 0).val
  let c256_i32 : BitVec 32 := 256#32
  let v16 : BitVec 32 := Scalar.muli arg0 c256_i32
  let v17 : Index := Scalar.indexCast v16
  let c0 : Index := 0#32
  ![v17.toNat, 0]
def k2_cond2 (i : grid2.Coords) (v7 : BitVec 32) : BitVec 1 :=
  let arg0 : BitVec 32 := BitVec.ofNat 32 (i 0).val
  let c24_i32_0 : BitVec 32 := 24#32
  let v6 : BitVec 1 := Scalar.cmpi .slt arg0 c24_i32_0
  let v8 : BitVec 1 := Scalar.cmpi .sge arg0 v7
  let v9 : BitVec 1 := Scalar.andi v6 v8
  let v10 : BitVec 32 := Scalar.extui v9
  let c0_i32_2 : BitVec 32 := 0#32
  let v11 : BitVec 1 := Scalar.cmpi .ne v10 c0_i32_2
  v11

def k2_chk2 (i : grid2.Coords) (v7 : BitVec 32) : Prop :=
  (∀ (k2_h2 : k2_cond2 i v7 = 1#1), ∀ a, (k2_off3 i) a + S256x768.size a ≤ S6144x768.size a) ∧
  (∀ (k2_h2 : k2_cond2 i v7 = 1#1), ∀ (hinb : ∀ a, (k2_off3 i) a + S256x768.size a ≤ S6144x768.size a), (Rect.unit (s := S6144x768) (k2_off3 i) S256x768.size hinb).PackedRows (EltTy.packing .bf16))
theorem k2_off3_inb : ∀ (i : grid2.Coords) (v7 : BitVec 32) (k2_hw2 : k2_chk2 i v7), ∀ (k2_h2 : k2_cond2 i v7 = 1#1), ∀ a, (k2_off3 i) a + S256x768.size a ≤ S6144x768.size a := fun i v7 k2_hw2 k2_h2 => k2_hw2.1 k2_h2
theorem k2_off3_packedbf16 : ∀ (i : grid2.Coords) (v7 : BitVec 32) (k2_hw2 : k2_chk2 i v7), ∀ (k2_h2 : k2_cond2 i v7 = 1#1), (Rect.unit (s := S6144x768) (k2_off3 i) S256x768.size (k2_off3_inb i v7 k2_hw2 k2_h2)).PackedRows (EltTy.packing .bf16) := fun i v7 k2_hw2 k2_h2 => k2_hw2.2 k2_h2 (k2_off3_inb i v7 k2_hw2 k2_h2)

def k2_cond3 (i : grid2.Coords) : BitVec 1 :=
  let arg0 : BitVec 32 := BitVec.ofNat 32 (i 0).val
  let c24_i32_3 : BitVec 32 := 24#32
  let v12 : BitVec 1 := Scalar.cmpi .sge arg0 c24_i32_3
  let v13 : BitVec 32 := Scalar.extui v12
  let c0_i32_4 : BitVec 32 := 0#32
  let v14 : BitVec 1 := Scalar.cmpi .ne v13 c0_i32_4
  v14

def k2_off4 (i : grid2.Coords) : Fin 2 → Nat :=
  let c0 : Index := 0#32
  let arg0 : BitVec 32 := BitVec.ofNat 32 (i 0).val
  let c24_i32_5 : BitVec 32 := 24#32
  let v15 : BitVec 32 := Scalar.subi arg0 c24_i32_5
  let c256_i32 : BitVec 32 := 256#32
  let v16 : BitVec 32 := Scalar.muli v15 c256_i32
  let v17 : Index := Scalar.indexCast v16
  ![0, v17.toNat]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (k2_off1_inb : ∀ i : grid2.Coords, ∀ a, (k2_off1 i) a + S1.size a ≤ S25.size a) (numel1_S1 : S1.numel = 1) (pf : pre2.Contents (Elt F)) (i : grid2.Coords) : Fin 3 → Nat :=
  let arg0 : BitVec 32 := BitVec.ofNat 32 (i 0).val
  let c23_i32 : BitVec 32 := 23#32
  let v0 : BitVec 32 := Scalar.minsi arg0 c23_i32
  let v1 : Index := Scalar.indexCast v0
  let v2 : BitVec 32 := pf.at 0 (Rect.unit (s := S25) ![v1.toNat] S1.size (k2_off1_inb i)) numel1_S1
  let c7_i32 : BitVec 32 := 7#32
  let v3 : BitVec 32 := Scalar.minsi v2 c7_i32
  let c0_i32 : BitVec 32 := 0#32
  let c0_i32_0 : BitVec 32 := 0#32
  let c0_i32_1 : BitVec 32 := 0#32
  ![v3.toNat, c0_i32.toNat, c0_i32_0.toNat]

def cc2_transform_6 (k2_off1_inb : ∀ i : grid2.Coords, ∀ a, (k2_off1 i) a + S1.size a ≤ S25.size a) (numel1_S1 : S1.numel = 1) (pf : pre2.Contents (Elt F)) (i : grid2.Coords) : Fin 3 → Nat :=
  let arg0 : BitVec 32 := BitVec.ofNat 32 (i 0).val
  let c23_i32 : BitVec 32 := 23#32
  let v0 : BitVec 32 := Scalar.minsi arg0 c23_i32
  let v1 : Index := Scalar.indexCast v0
  let v2 : BitVec 32 := pf.at 0 (Rect.unit (s := S25) ![v1.toNat] S1.size (k2_off1_inb i)) numel1_S1
  let c7_i32 : BitVec 32 := 7#32
  let v3 : BitVec 32 := Scalar.minsi v2 c7_i32
  let c0_i32 : BitVec 32 := 0#32
  let c0_i32_0 : BitVec 32 := 0#32
  let c0_i32_1 : BitVec 32 := 0#32
  ![v3.toNat, c0_i32.toNat, c0_i32_0.toNat]

def cc2_transform_7 (k2_off1_inb : ∀ i : grid2.Coords, ∀ a, (k2_off1 i) a + S1.size a ≤ S25.size a) (numel1_S1 : S1.numel = 1) (pf : pre2.Contents (Elt F)) (i : grid2.Coords) : Fin 3 → Nat :=
  let arg0 : BitVec 32 := BitVec.ofNat 32 (i 0).val
  let c23_i32 : BitVec 32 := 23#32
  let v0 : BitVec 32 := Scalar.minsi arg0 c23_i32
  let v1 : Index := Scalar.indexCast v0
  let v2 : BitVec 32 := pf.at 0 (Rect.unit (s := S25) ![v1.toNat] S1.size (k2_off1_inb i)) numel1_S1
  let c7_i32 : BitVec 32 := 7#32
  let v3 : BitVec 32 := Scalar.minsi v2 c7_i32
  let c0_i32 : BitVec 32 := 0#32
  let c0_i32_0 : BitVec 32 := 0#32
  let c0_i32_1 : BitVec 32 := 0#32
  ![v3.toNat, c0_i32.toNat, c0_i32_0.toNat]

def cc2_transform_8 (i : grid2.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc2_transform_9 (i : grid2.Coords) : Fin 2 → Nat :=
  let arg0 : BitVec 32 := BitVec.ofNat 32 (i 0).val
  let c24_i32 : BitVec 32 := 24#32
  let v0 : BitVec 32 := Scalar.subi arg0 c24_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage2_0 : Fin 1 → Memref sig .tc .vmem S2048x768 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x2048 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x1536x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1536x768 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x768x1536 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S256x768 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S256x768 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]
-- ==== ReferenceIdeal.lean ====
abbrev S1x2048x768 : Shape := ⟨3, ![1, 2048, 768]⟩
abbrev S8x768 : Shape := ⟨2, ![8, 768]⟩
abbrev S1x1536x768 : Shape := ⟨3, ![1, 1536, 768]⟩
abbrev S1x768x1536 : Shape := ⟨3, ![1, 768, 1536]⟩
abbrev S8x1536x768 : Shape := ⟨3, ![8, 1536, 768]⟩
abbrev S8x768x1536 : Shape := ⟨3, ![8, 768, 1536]⟩
abbrev S2048x768 : Shape := ⟨2, ![2048, 768]⟩
abbrev S2048x1x1536 : Shape := ⟨3, ![2048, 1, 1536]⟩
abbrev S_ : Shape := ⟨0, ![]⟩
abbrev S1x768x2048 : Shape := ⟨3, ![1, 768, 2048]⟩
abbrev S2048x1x768 : Shape := ⟨3, ![2048, 1, 768]⟩
abbrev S768x8 : Shape := ⟨2, ![768, 8]⟩
abbrev S2048x8 : Shape := ⟨2, ![2048, 8]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S1 : Shape := ⟨1, ![1]⟩
abbrev S1x1x1 : Shape := ⟨3, ![1, 1, 1]⟩
abbrev S2048x2x2 : Shape := ⟨3, ![2048, 2, 2]⟩
abbrev S2048x8x1536 : Shape := ⟨3, ![2048, 8, 1536]⟩
abbrev S8x768x2048 : Shape := ⟨3, ![8, 768, 2048]⟩
abbrev S2048x8x768 : Shape := ⟨3, ![2048, 8, 768]⟩

abbrev nBuf : Space → Nat
  | .hbm => 119
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S8x768, .f32⟩
  | .hbm, ⟨2, _⟩ => ⟨S1x1536x768, .f32⟩
  | .hbm, ⟨3, _⟩ => ⟨S1x1536x768, .f32⟩
  | .hbm, ⟨4, _⟩ => ⟨S1x768x1536, .f32⟩
  | .hbm, ⟨5, _⟩ => ⟨S8x1536x768, .f32⟩
  | .hbm, ⟨6, _⟩ => ⟨S8x1536x768, .f32⟩
  | .hbm, ⟨7, _⟩ => ⟨S8x768x1536, .f32⟩
  | .hbm, ⟨8, _⟩ => ⟨S2048x768, .f32⟩
  | .hbm, ⟨9, _⟩ => ⟨S2048x1x1536, .f32⟩
  | .hbm, ⟨10, _⟩ => ⟨S2048x1x1536, .f32⟩
  | .hbm, ⟨11, _⟩ => ⟨S2048x1x1536, .f32⟩
  | .hbm, ⟨12, _⟩ => ⟨S2048x1x1536, .f32⟩
  | .hbm, ⟨13, _⟩ => ⟨S_, .f32⟩
  | .hbm, ⟨14, _⟩ => ⟨S2048x1x1536, .f32⟩
  | .hbm, ⟨15, _⟩ => ⟨S2048x1x1536, .f32⟩
  | .hbm, ⟨16, _⟩ => ⟨S_, .f32⟩
  | .hbm, ⟨17, _⟩ => ⟨S2048x1x1536, .f32⟩
  | .hbm, ⟨18, _⟩ => ⟨S2048x1x1536, .f32⟩
  | .hbm, ⟨19, _⟩ => ⟨S2048x1x1536, .f32⟩
  | .hbm, ⟨20, _⟩ => ⟨S2048x1x1536, .f32⟩
  | .hbm, ⟨21, _⟩ => ⟨S1x768x2048, .f32⟩
  | .hbm, ⟨22, _⟩ => ⟨S2048x1x768, .f32⟩
  | .hbm, ⟨23, _⟩ => ⟨S_, .f32⟩
  | .hbm, ⟨24, _⟩ => ⟨S2048x768, .f32⟩
  | .hbm, ⟨25, _⟩ => ⟨S_, .f32⟩
  | .hbm, ⟨26, _⟩ => ⟨S2048x768, .f32⟩
  | .hbm, ⟨27, _⟩ => ⟨S2048x768, .f32⟩
  | .hbm, ⟨28, _⟩ => ⟨S768x8, .f32⟩
  | .hbm, ⟨29, _⟩ => ⟨S2048x8, .f32⟩
  | .hbm, ⟨30, _⟩ => ⟨S_, .f32⟩
  | .hbm, ⟨31, _⟩ => ⟨S2048, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S2048x1, .f32⟩
  | .hbm, ⟨36, _⟩ => ⟨S2048x8, .f32⟩
  | .hbm, ⟨37, _⟩ => ⟨S2048x8, .f32⟩
  | .hbm, ⟨38, _⟩ => ⟨S2048x8, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x8, .f32⟩
  | .hbm, ⟨43, _⟩ => ⟨S2048x8, .f32⟩
  | .hbm, ⟨44, _⟩ => ⟨S2048x2, .f32⟩
  | .hbm, ⟨45, _⟩ => ⟨S2048x2, .i32⟩
  | .hbm, ⟨46, _⟩ => ⟨S_, .i32⟩
  | .hbm, ⟨47, _⟩ => ⟨S2048x2, .i32⟩
  | .hbm, ⟨48, _⟩ => ⟨S2048x2, .i1⟩
  | .hbm, ⟨49, _⟩ => ⟨S_, .i32⟩
  | .hbm, ⟨50, _⟩ => ⟨S2048x2, .i32⟩
  | .hbm, ⟨51, _⟩ => ⟨S2048x2, .i32⟩
  | .hbm, ⟨52, _⟩ => ⟨S2048x2, .i32⟩
  | .hbm, ⟨53, _⟩ => ⟨S2048x2x1, .i32⟩
  | .hbm, ⟨54, _⟩ => ⟨S1, .i32⟩
  | .hbm, ⟨55, _⟩ => ⟨S_, .i32⟩
  | .hbm, ⟨56, _⟩ => ⟨S2048x2x1, .i32⟩
  | .hbm, ⟨57, _⟩ => ⟨S2048x2x1, .i1⟩
  | .hbm, ⟨58, _⟩ => ⟨S1x1x1, .i32⟩
  | .hbm, ⟨59, _⟩ => ⟨S2048x2x1, .i32⟩
  | .hbm, ⟨60, _⟩ => ⟨S2048x2x1, .i1⟩
  | .hbm, ⟨61, _⟩ => ⟨S2048x2x1, .i1⟩
  | .hbm, ⟨62, _⟩ => ⟨S_, .i1⟩
  | .hbm, ⟨63, _⟩ => ⟨S2048x2, .i1⟩
  | .hbm, ⟨64, _⟩ => ⟨S2048x2, .f32⟩
  | .hbm, ⟨65, _⟩ => ⟨S_, .f32⟩
  | .hbm, ⟨66, _⟩ => ⟨S2048x2, .f32⟩
  | .hbm, ⟨67, _⟩ => ⟨S2048x2, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S2048x2, .f32⟩
  | .hbm, ⟨75, _⟩ => ⟨S2048x2, .f32⟩
  | .hbm, ⟨76, _⟩ => ⟨S_, .f32⟩
  | .hbm, ⟨77, _⟩ => ⟨S2048x2, .f32⟩
  | .hbm, ⟨78, _⟩ => ⟨S2048x2, .f32⟩
  | .hbm, ⟨79, _⟩ => ⟨S_, .f32⟩
  | .hbm, ⟨80, _⟩ => ⟨S2048x8, .f32⟩
  | .hbm, ⟨81, _⟩ => ⟨S2048, .i32⟩
  | .hbm, ⟨82, _⟩ => ⟨S2048x1, .i32⟩
  | .hbm, ⟨83, _⟩ => ⟨S_, .i32⟩
  | .hbm, ⟨84, _⟩ => ⟨S2048x1, .i32⟩
  | .hbm, ⟨85, _⟩ => ⟨S2048x1, .i1⟩
  | .hbm, ⟨86, _⟩ => ⟨S_, .i32⟩
  | .hbm, ⟨87, _⟩ => ⟨S2048x1, .i32⟩
  | .hbm, ⟨88, _⟩ => ⟨S2048x1, .i32⟩
  | .hbm, ⟨89, _⟩ => ⟨S2048x1, .i32⟩
  | .hbm, ⟨90, _⟩ => ⟨S_, .i32⟩
  | .hbm, ⟨91, _⟩ => ⟨S2048x2, .i32⟩
  | .hbm, ⟨92, _⟩ => ⟨S2048x2, .i1⟩
  | .hbm, ⟨93, _⟩ => ⟨S_, .i32⟩
  | .hbm, ⟨94, _⟩ => ⟨S2048x2, .i32⟩
  | .hbm, ⟨95, _⟩ => ⟨S2048x2, .i32⟩
  | .hbm, ⟨96, _⟩ => ⟨S2048x2, .i32⟩
  | .hbm, ⟨97, _⟩ => ⟨S2048x2, .i32⟩
  | .hbm, ⟨98, _⟩ => ⟨S2048x2x1, .i32⟩
  | .hbm, ⟨99, _⟩ => ⟨S2048x2x1, .i32⟩
  | .hbm, ⟨100, _⟩ => ⟨S2048x2x2, .i32⟩
  | .hbm, ⟨101, _⟩ => ⟨S2048x8, .f32⟩
  | .hbm, ⟨102, _⟩ => ⟨S2048x8x1536, .f32⟩
  | .hbm, ⟨103, _⟩ => ⟨S2048x8x1536, .f32⟩
  | .hbm, ⟨104, _⟩ => ⟨S2048x8x1536, .f32⟩
  | .hbm, ⟨105, _⟩ => ⟨S2048x8x1536, .f32⟩
  | .hbm, ⟨106, _⟩ => ⟨S_, .f32⟩
  | .hbm, ⟨107, _⟩ => ⟨S2048x8x1536, .f32⟩
  | .hbm, ⟨108, _⟩ => ⟨S2048x8x1536, .f32⟩
  | .hbm, ⟨109, _⟩ => ⟨S_, .f32⟩
  | .hbm, ⟨110, _⟩ => ⟨S2048x8x1536, .f32⟩
  | .hbm, ⟨111, _⟩ => ⟨S2048x8x1536, .f32⟩
  | .hbm, ⟨112, _⟩ => ⟨S2048x8x1536, .f32⟩
  | .hbm, ⟨113, _⟩ => ⟨S2048x8x1536, .f32⟩
  | .hbm, ⟨114, _⟩ => ⟨S8x768x2048, .f32⟩
  | .hbm, ⟨115, _⟩ => ⟨S2048x8x768, .f32⟩
  | .hbm, ⟨116, _⟩ => ⟨S2048x768, .f32⟩
  | .hbm, ⟨117, _⟩ => ⟨S2048x768, .f32⟩
  | .hbm, ⟨118, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_1 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_values : Ref sig .tc := ⟨.hbm, 44, rfl⟩
abbrev main_indices : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_cst : Ref sig .tc := ⟨.hbm, 65, rfl⟩
abbrev main_call1_v14 : Ref sig .tc := ⟨.hbm, 66, rfl⟩
abbrev main_v23 : Ref sig .tc := ⟨.hbm, 67, rfl⟩
abbrev main_cst_4 : Ref sig .tc := ⟨.hbm, 68, rfl⟩
abbrev main_v24 : Ref sig .tc := ⟨.hbm, 69, rfl⟩
abbrev main_v25 : Ref sig .tc := ⟨.hbm, 70, rfl⟩
abbrev main_cst_5 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_6 : Ref sig .tc := ⟨.hbm, 76, rfl⟩
abbrev main_v30 : Ref sig .tc := ⟨.hbm, 77, rfl⟩
abbrev main_v31 : Ref sig .tc := ⟨.hbm, 78, rfl⟩
abbrev main_cst_7 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_c : Ref sig .tc := ⟨.hbm, 83, rfl⟩
abbrev main_v35 : Ref sig .tc := ⟨.hbm, 84, rfl⟩
abbrev main_v36 : Ref sig .tc := ⟨.hbm, 85, rfl⟩
abbrev main_c_8 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_c_9 : Ref sig .tc := ⟨.hbm, 90, rfl⟩
abbrev main_v40 : Ref sig .tc := ⟨.hbm, 91, rfl⟩
abbrev main_v41 : Ref sig .tc := ⟨.hbm, 92, rfl⟩
abbrev main_c_10 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_call2_v0 : Ref sig .tc := ⟨.hbm, 104, rfl⟩
abbrev main_call2_v1 : Ref sig .tc := ⟨.hbm, 105, rfl⟩
abbrev main_call2_cst : Ref sig .tc := ⟨.hbm, 106, rfl⟩
abbrev main_call2_v2 : Ref sig .tc := ⟨.hbm, 107, rfl⟩
abbrev main_call2_v3 : Ref sig .tc := ⟨.hbm, 108, rfl⟩
abbrev main_call2_cst_0 : Ref sig .tc := ⟨.hbm, 109, rfl⟩
abbrev main_call2_v4 : Ref sig .tc := ⟨.hbm, 110, rfl⟩
abbrev main_call2_v5 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩

abbrev nD : Nat := 1
abbrev τ : Topo := Topo.v7x

variable {F : FTy → Type} [FloatOps F]
-- ==== Proof.KTableOk.lean ====
/- The table of block experts is admissible: what it holds of the routed blocks, at words and at extended reals. -/
module

public import proofs.«01_k».proof.Proof.KVals
public import Idealize.ShloMosaic.Lib.Pointwise
public import Idealize.ShloMosaic.Lib.NatWords
public import Idealize.ShloMosaic.Lib.NatWordsOrder

@[expose] public section

set_option maxRecDepth 16384

noncomputable section

namespace Cert.Kernel.Run

open Idealize.ShloMosaic Idealize.ShloMosaic.TcCoe
open Idealize.SL.Sem
open Cert.Kernel.Gen

variable {F : FTy → Type} [FloatOps F]

/-- The table entry a block reads its expert from. -/
def tabPos (i : grid2.Coords) : Fin 25 := ⟨min (i 0).val 23, by omega⟩

theorem off1_val : ∀ i : grid2.Coords, k2_off1 i 0 = min (i 0).val 23 := by decide +kernel

theorem at_tabPos (pf : Cert.Kernel.pre2.Contents (Elt F)) (i : grid2.Coords) :
    (pf.at 0 (Rect.unit (s := S25) (k2_off1 i) (Shape.size Cert.Kernel.S1) (k2_off1_inb i)) numel1_S1 : BitVec 32) = (pf 0 : IVec S25 32) (ix1 (tabPos i)) := by
  refine congrArg (pf 0 : IVec S25 32) ?_
  funext a
  fin_cases a
  refine Fin.ext ?_
  show k2_off1 i 0 + 1 * 0 = min (i 0).val 23
  rw [off1_val]; rfl

/-- The expert block `i` draws, from the table's entry. -/
def draw (v : BitVec 32) : Nat := (Scalar.minsi v 7#32).toNat

theorem draw_lt (v : BitVec 32) (h : 0 ≤ v.toInt) : draw v < 8 := by
  unfold draw Scalar.minsi IntOp.minsi
  have hv := BitVec.toInt_eq_toNat_cond v
  have hl := v.isLt
  have h7 : (7#32 : BitVec 32).toInt = 7 := by decide
  have h7' : (7#32 : BitVec 32).toNat = 7 := by decide
  split_ifs with hc
  · rw [BitVec.slt_eq_decide, decide_eq_true_eq, h7] at hc
    split_ifs at hv <;> omega
  · omega

theorem transform5 (pf : Cert.Kernel.pre2.Contents (Elt F)) (i : grid2.Coords) :
    cc2_transform_5 k2_off1_inb numel1_S1 pf i = ![draw ((pf 0 : IVec S25 32) (ix1 (tabPos i))), 0, 0] := by
  exact congrArg (fun v : BitVec 32 => (![draw v, 0, 0] : Fin 3 → Nat)) (at_tabPos pf i)
theorem transform6 (pf : Cert.Kernel.pre2.Contents (Elt F)) (i : grid2.Coords) :
    cc2_transform_6 k2_off1_inb numel1_S1 pf i = ![draw ((pf 0 : IVec S25 32) (ix1 (tabPos i))), 0, 0] := by
  exact congrArg (fun v : BitVec 32 => (![draw v, 0, 0] : Fin 3 → Nat)) (at_tabPos pf i)
theorem transform7 (pf : Cert.Kernel.pre2.Contents (Elt F)) (i : grid2.Coords) :
    cc2_transform_7 k2_off1_inb numel1_S1 pf i = ![draw ((pf 0 : IVec S25 32) (ix1 (tabPos i))), 0, 0] := by
  exact congrArg (fun v : BitVec 32 => (![draw v, 0, 0] : Fin 3 → Nat)) (at_tabPos pf i)

/-- Nonnegative entries for the routed blocks make the table admissible. -/
theorem ok2_of (pf : Cert.Kernel.pre2.Contents (Elt F)) (h : ∀ k : Fin 25, k.val < 24 → 0 ≤ ((pf 0 : IVec S25 32) (ix1 k)).toInt) : ok2 pf := by
  have hd : ∀ i : grid2.Coords, draw ((pf 0 : IVec S25 32) (ix1 (tabPos i))) < 8 := fun i =>
    draw_lt _ (h _ (by show min (i 0).val 23 < 24; omega))
  refine ⟨fun i => ⟨fun a => ?_, .inl rfl⟩, fun i => ⟨fun a => ?_, .inl rfl⟩, fun i => ⟨fun a => ?_, .inl rfl⟩⟩
  · rw [transform5]
    have := hd i
    fin_cases a
    · show (draw _ + 1) * 1 ≤ 8; omega
    · show (0 + 1) * 1536 ≤ 1536; omega
    · show (0 + 1) * 768 ≤ 768; omega
  · rw [transform6]
    have := hd i
    fin_cases a
    · show (draw _ + 1) * 1 ≤ 8; omega
    · show (0 + 1) * 1536 ≤ 1536; omega
    · show (0 + 1) * 768 ≤ 768; omega
  · rw [transform7]
    have := hd i
    fin_cases a
    · show (draw _ + 1) * 1 ≤ 8; omega
    · show (0 + 1) * 768 ≤ 768; omega
    · show (0 + 1) * 1536 ≤ 1536; omega

theorem tabs_eq (m : (ℓ : Loc nD τ sig) → Buf (Elt F) ℓ) (k : Fin 25) :
    (tabs m 0 : IVec S25 32) (ix1 k) = bexp (X m 0) (GW m 0) (Idealize.ShloMosaic.ix2 0 k) := by
  show (W5 m 0 main_v4 : IVec S25 32) (ix1 k) = _
  rw [W5_v4]
  pointwise

theorem w24 : (FloatOps.ofBits (F := Bits) FTy.f32 1103101952#32) = Bits.f32OfNat 24 := by
  rw [Bits.f32OfNat_eq 24 (by decide)]; decide
theorem w7 : (FloatOps.ofBits (F := Bits) FTy.f32 1088421888#32) = Bits.f32OfNat 7 := by
  rw [Bits.f32OfNat_eq 7 (by decide)]; decide

theorem bexpBits (v : FVec Bits S8x1 .f32) (k : Fin 25) (hk : k.val < 24) : 0 ≤ (k0_pay3 v (Idealize.ShloMosaic.ix2 0 k)).toInt := by
  pointwise [k0_pay3]
  have hc : FloatOps.cmpf (F := Bits) (φ := .f32) CmpFPredicate.oge (FloatOps.sitofp (F := Bits) FTy.f32 (BitVec.ofNat 32 k.val)) (FloatOps.ofBits FTy.f32 1103101952#32) = 0#1 := by
    rw [w24]
    show Bits.cmpf32 .oge (Bits.sitofp32 (BitVec.ofNat 32 k.val)) (Bits.f32OfNat 24) = _
    rw [Bits.sitofp32_ofNat (by omega), Bits.cmpf32_oge_nat (by omega) (by decide), decide_eq_false (by omega)]
    rfl
  rw [hc, w7]
  show 0 ≤ (Bits.fptosi32 32 (Bits.minf32 (Bits.reduceAdd .f32 [0] reduces_S8x25_S25 _ (ix1 k)) _)).toInt
  generalize hG : (cmpf (F := Bits) (φ := .f32) CmpFPredicate.oge _ _ : IVec S8x25 1) = G
  have hn : ∀ b : BitVec 1, Bits.natOfF32? (FloatOps.sitofp (F := Bits) .f32 (b.setWidth 32)) = some b.toNat := by
    intro b
    have hb := b.isLt
    have e : b.setWidth 32 = BitVec.ofNat 32 b.toNat := by
      apply BitVec.eq_of_toNat_eq; simp
    rw [e]
    show Bits.natOfF32? (Bits.sitofp32 (BitVec.ofNat 32 b.toNat)) = _
    rw [Bits.sitofp32_ofNat (by omega), Bits.natOfF32?_f32OfNat _ (by omega)]
  have hS : (Bits.reduceFiber reduces_S8x25_S25 (ix1 k)).sum (fun i => (G i).toNat) < 2 ^ 24 := by
    have h1 : (Bits.reduceFiber reduces_S8x25_S25 (ix1 k)).sum (fun i => (G i).toNat) ≤ (Bits.reduceFiber reduces_S8x25_S25 (ix1 k)).card • 1 :=
      Finset.sum_le_card_nsmul _ _ _ fun i _ => by have := (G i).isLt; omega
    have h2 : (Bits.reduceFiber reduces_S8x25_S25 (ix1 k)).card ≤ (Finset.univ : Finset S8x25.Idx).card := Finset.card_filter_le _ _
    have h3 : (Finset.univ : Finset S8x25.Idx).card = 200 := by
      rw [Finset.card_univ]; decide +kernel
    rw [h3] at h2
    simp only [smul_eq_mul, mul_one] at h1
    omega
  have hr := Bits.reduceAdd_nat [0] reduces_S8x25_S25 (sitofp FTy.f32 (extui 32 G natLt_1_32)) (ix1 k) (fun i => (G i).toNat) (fun i _ => hn (G i)) hS
  rw [hr, Bits.minf32_nat_le (by omega) (by omega), Bits.fptosi32_nat _ (by omega)]
  generalize (Bits.reduceFiber reduces_S8x25_S25 (ix1 k)).sum (fun i => (G i).toNat) = N
  have hN : min N 7 < 8 := by omega
  have : ∀ n : Fin 8, 0 ≤ (BitVec.ofNat 32 n.val).toInt := by decide
  exact this ⟨_, hN⟩

theorem ok2_bits (m : (ℓ : Loc nD τ sig) → Buf (Elt Bits) ℓ) : ok2 (tabs m) :=
  ok2_of _ fun k hk => by rw [tabs_eq]; exact bexpBits _ k hk

end Cert.Kernel.Run
end
-- ==== Proof.KFrames.lean ====
/- The kernel's frame. -/
module

public import proofs.«01_k».proof.Defs
public import proofs.«01_k».proof.Proof.Gen.Kernel
public import proofs.«01_k».proof.Proof.KTableOk

@[expose] public section
noncomputable section
namespace Cert.Proof
open Idealize.ShloMosaic Idealize.ShloMosaic.TcCoe Idealize.SL.Sem

theorem frame_kernel : Cert.quiescent_Kernel := fun m ρ _ =>
  (θ_run Cert.Kernel.defs _ _).mono (fun _ h => ⟨fun c => (h.1 c).2, h.2⟩)
    (Cert.Kernel.Run.run_main (F := Bits) m (Cert.Kernel.Run.ok2_bits m) ρ)

end Cert.Proof
end
-- ==== Proof.Router.lean ====
/- The router's region: what its body leaves in each output window, and the body obligation, over any
   entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Router

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : Dev nD → Valuation τ sig (Elt F))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Proc.devRef .tc (Pipeline.arrRef spec0 0)))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Proc.devRef .tc (Pipeline.arrRef spec0 1)))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r0_0 : Rect S2048x768 := Rect.unit (s := S2048x768) ![0, 0] S2048x768.size inb_S2048x768_S2048x768_0_0
abbrev r0_1 : Rect S8x768 := Rect.unit (s := S8x768) ![0, 0] S8x768.size inb_S8x768_S8x768_0_0
abbrev r0_2 : Rect S1x2048 := Rect.unit (s := S1x2048) ![0, 0] S1x2048.size inb_S1x2048_S1x2048_0_0
abbrev r0_3 : Rect S1x25 := Rect.unit (s := S1x25) ![0, 0] S1x25.size inb_S1x25_S1x25_0_0

/-! ## What the body leaves in each output window's buffer -/

/-! ### Values of the body that the stores' payloads, spelt out, would write more than once

    Each is a vector the body binds (often a part call's result), stated over the input windows' blocks and
    numbered on from the payloads. -/

def k0_pay19 (x0 : Vec F S2048x768 .f32) (x1 : Vec F S8x768 .f32) : FVec F S8x2048 .f32 :=
  k0_pay7 (View.ld x0 r0_0) (View.ld x1 r0_1) -- `v25`
def k0_pay20 (x0 : Vec F S2048x768 .f32) (x1 : Vec F S8x768 .f32) : FVec F S8x2048 .f32 :=
  k0_pay10 (View.ld x0 r0_0) (View.ld x1 r0_1) -- `v40`

/-- Window 2's staging buffer after the body, from the input windows' blocks: its 1 store as pieces, LAST
    FIRST. -/
def out0_2 (x0 : Vec F S2048x768 .f32) (x1 : Vec F S8x768 .f32) : Vec F S1x2048 .i32 :=
  View.canon [⟨r0_2, k0_pay1 (k0_pay18 (k0_pay19 x0 x1) (k0_pay20 x0 x1))⟩]

/-- Its stores tile the buffer (checked by evaluation), so they cover it. -/
theorem cover0_2 (p0 : Vec F S1x2048 .i32) (y : S1x2048.Idx) :
    ∃ pc ∈ ([⟨r0_2, p0⟩] : List (View.Piece (Elt F) S1x2048 .i32)), y ∈ pc.1.set :=
  View.cover_of_tiled [⟨r0_2, p0⟩] S1x2048.size (by rfl) y

/-- Window 3's staging buffer after the body, from the input windows' blocks: its 1 store as pieces, LAST
    FIRST. -/
def out0_3 (x0 : Vec F S2048x768 .f32) (x1 : Vec F S8x768 .f32) : Vec F S1x2048 .i32 :=
  View.canon [⟨r0_2, k0_pay2 (k0_pay20 x0 x1) (k0_pay14 (k0_pay19 x0 x1) (k0_pay20 x0 x1)) (k0_pay17 (k0_pay19 x0 x1) (k0_pay20 x0 x1))⟩]

/-- Its stores tile the buffer (checked by evaluation), so they cover it. -/
theorem cover0_3 (p0 : Vec F S1x2048 .i32) (y : S1x2048.Idx) :
    ∃ pc ∈ ([⟨r0_2, p0⟩] : List (View.Piece (Elt F) S1x2048 .i32)), y ∈ pc.1.set :=
  View.cover_of_tiled [⟨r0_2, p0⟩] S1x2048.size (by rfl) y

/-- Window 4's staging buffer after the body, from the input windows' blocks: its 1 store as pieces, LAST
    FIRST. -/
def out0_4 (x0 : Vec F S2048x768 .f32) (x1 : Vec F S8x768 .f32) : Vec F S1x2048 .f32 :=
  View.canon [⟨r0_2, k0_pay12 (k0_pay6 (View.ld x0 r0_0) (View.ld x1 r0_1)) (k0_pay11 (View.ld x0 r0_0) (View.ld x1 r0_1))⟩]

/-- Its stores tile the buffer (checked by evaluation), so they cover it. -/
theorem cover0_4 (p0 : Vec F S1x2048 .f32) (y : S1x2048.Idx) :
    ∃ pc ∈ ([⟨r0_2, p0⟩] : List (View.Piece (Elt F) S1x2048 .f32)), y ∈ pc.1.set :=
  View.cover_of_tiled [⟨r0_2, p0⟩] S1x2048.size (by rfl) y

/-- Window 5's staging buffer after the body, from the input windows' blocks: its 1 store as pieces, LAST
    FIRST. -/
def out0_5 (x0 : Vec F S2048x768 .f32) (x1 : Vec F S8x768 .f32) : Vec F S1x2048 .f32 :=
  View.canon [⟨r0_2, k0_pay13 (k0_pay9 (View.ld x0 r0_0) (View.ld x1 r0_1)) (k0_pay11 (View.ld x0 r0_0) (View.ld x1 r0_1))⟩]

/-- Its stores tile the buffer (checked by evaluation), so they cover it. -/
theorem cover0_5 (p0 : Vec F S1x2048 .f32) (y : S1x2048.Idx) :
    ∃ pc ∈ ([⟨r0_2, p0⟩] : List (View.Piece (Elt F) S1x2048 .f32)), y ∈ pc.1.set :=
  View.cover_of_tiled [⟨r0_2, p0⟩] S1x2048.size (by rfl) y

/-- Window 6's staging buffer after the body, from the input windows' blocks: its 1 store as pieces, LAST
    FIRST. -/
def out0_6 (x0 : Vec F S2048x768 .f32) (x1 : Vec F S8x768 .f32) : Vec F S1x25 .i32 :=
  View.canon [⟨r0_3, k0_pay3 (k0_pay16 (k0_pay19 x0 x1) (k0_pay20 x0 x1))⟩]

/-- Its stores tile the buffer (checked by evaluation), so they cover it. -/
theorem cover0_6 (p0 : Vec F S1x25 .i32) (y : S1x25.Idx) :
    ∃ pc ∈ ([⟨r0_3, p0⟩] : List (View.Piece (Elt F) S1x25 .i32)), y ∈ pc.1.set :=
  View.cover_of_tiled [⟨r0_3, p0⟩] S1x25.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel (c : Dev nD) (E : Set ℕ) (arg0 : Memref sig .tc .vmem S2048x768 .f32) (harg0 : arg0.IsWhole) (arg1 : Memref sig .tc .vmem S8x768 .f32) (harg1 : arg1.IsWhole) (arg2 : Memref sig .tc .vmem S1x2048 .i32) (harg2 : arg2.IsWhole) (arg3 : Memref sig .tc .vmem S1x2048 .i32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x25 .i32) (harg6 : arg6.IsWhole)
    (x0 : Vec F S2048x768 .f32) (x1 : Vec F S8x768 .f32) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1) ∗ owns (c : Thread nD τ) arg5 fullShare (out0_5 x0 x1) ∗ owns (c : Thread nD τ) arg6 fullShare (out0_6 x0 x1)) -∗ K ⟨⟩))
      ⊢ wp frame (wpE (defs₀ (F := F)) Variants.none c none) E (cc0__router_body arg0 harg0 arg1 harg1 arg2 harg2 arg3 harg3 arg4 harg4 arg5 harg5 arg6 harg6) K := by
  simp only [cc0__router_body_eq_skeleton]; unfold cc0__router_body_skel
  simp only [k0_part1_eq_skeleton, k0_part2_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover0_2 _)).trans ?_
    rfl
  isplitl [H3]
  · iexists _; isplitr
    swap; · iexact H3
    ipureintro
    refine (View.read_writes_eq_canon _ _ _ (cover0_3 _)).trans ?_
    rfl
  isplitl [H4]
  · iexists _; isplitr
    swap; · iexact H4
    ipureintro
    refine (View.read_writes_eq_canon _ _ _ (cover0_4 _)).trans ?_
    rfl
  isplitl [H5]
  · iexists _; isplitr
    swap; · iexact H5
    ipureintro
    refine (View.read_writes_eq_canon _ _ _ (cover0_5 _)).trans ?_
    rfl
  iexists _; isplitr
  swap; · iexact H6
  ipureintro
  refine (View.read_writes_eq_canon _ _ _ (cover0_6 _)).trans ?_
  rfl

/-! ## The pipeline's proof data -/

/-- The proof data of the one pipeline on core `c`: the arrays as the region finds them (`V`); after the body at
    point `t` each input's buffer at its block and each output's at `out0_W` of the input blocks; the invariant the
    class's; nothing owed;
    full shares. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => out0_2 (iblk V c 0 t) (iblk V c 1 t)
    | ⟨3, _⟩ => out0_3 (iblk V c 0 t) (iblk V c 1 t)
    | ⟨4, _⟩ => out0_4 (iblk V c 0 t) (iblk V c 1 t)
    | ⟨5, _⟩ => out0_5 (iblk V c 0 t) (iblk V c 1 t)
    | ⟨6, _⟩ => out0_6 (iblk V c 0 t) (iblk V c 1 t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Proc.devRef .tc (Pipeline.arrRef spec0 w)) := by
  dsimp only [dat]

/-- What the body leaves, window by window (the proof data's `match` reduced by `dsimp`, never `rfl`: Lib/Pipeline.lean `Dat`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = out0_2 (iblk V c 0 t) (iblk V c 1 t) := by dsimp only [dat]
theorem after0_3 (c : Dev nD) (t : Fin cfg0.N) : (dat V c).after 3 t = out0_3 (iblk V c 0 t) (iblk V c 1 t) := by dsimp only [dat]
theorem after0_4 (c : Dev nD) (t : Fin cfg0.N) : (dat V c).after 4 t = out0_4 (iblk V c 0 t) (iblk V c 1 t) := by dsimp only [dat]
theorem after0_5 (c : Dev nD) (t : Fin cfg0.N) : (dat V c).after 5 t = out0_5 (iblk V c 0 t) (iblk V c 1 t) := by dsimp only [dat]
theorem after0_6 (c : Dev nD) (t : Fin cfg0.N) : (dat V c).after 6 t = out0_6 (iblk V c 0 t) (iblk V c 1 t) := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d

/-! ## The body obligation, at a generic point -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' memrefs hold their blocks (`before0_W`), so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat V c).Φ t.succ = (dat V c).Φ t.castSucc from rfl,
    show (dat V c).owesAt () t.succ = (dat V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ (iblk V c 0 t) (iblk V c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

end Cert.KernelIdeal.Router

end
-- ==== Proof.Shared.lean ====
/- The shared expert's region: what its body leaves in the output window, and the body obligation, over any
   entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Shared

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : Dev nD → Valuation τ sig (Elt F))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Proc.devRef .tc (Pipeline.arrRef spec1 0)))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Proc.devRef .tc (Pipeline.arrRef spec1 1)))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Proc.devRef .tc (Pipeline.arrRef spec1 2)))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Proc.devRef .tc (Pipeline.arrRef spec1 3)))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev r1_0 : Rect S256x768 := Rect.unit (s := S256x768) ![0, 0] S256x768.size inb_S256x768_S256x768_0_0
abbrev r1_1 : Rect S1x1536x768 := Rect.unit (s := S1x1536x768) ![0, 0, 0] S1x1536x768.size inb_S1x1536x768_S1x1536x768_0_0_0
abbrev r1_2 : Rect S1x768x1536 := Rect.unit (s := S1x768x1536) ![0, 0, 0] S1x768x1536.size inb_S1x768x1536_S1x768x1536_0_0_0

/-! ## What the body leaves in each output window's buffer -/

/-- Window 4's staging buffer after the body, from the input windows' blocks: its 1 store as pieces, LAST
    FIRST. -/
def out1_4 (x0 : Vec F S256x768 .bf16) (x1 : Vec F S1x1536x768 .f32) (x2 : Vec F S1x1536x768 .f32) (x3 : Vec F S1x768x1536 .f32) : Vec F S256x768 .f32 :=
  View.canon [⟨r1_0, k1_pay1 (View.ld x0 r1_0) (View.ld x1 r1_1) (View.ld x2 r1_1) (View.ld x3 r1_2)⟩]

/-- Its stores tile the buffer (checked by evaluation), so they cover it. -/
theorem cover1_4 (p0 : Vec F S256x768 .f32) (y : S256x768.Idx) :
    ∃ pc ∈ ([⟨r1_0, p0⟩] : List (View.Piece (Elt F) S256x768 .f32)), y ∈ pc.1.set :=
  View.cover_of_tiled [⟨r1_0, p0⟩] S256x768.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel (c : Dev nD) (E : Set ℕ) (i : grid1.Coords) (arg1 : Memref sig .tc .vmem S256x768 .bf16) (harg1 : arg1.IsWhole) (arg2 : Memref sig .tc .vmem S1x1536x768 .f32) (harg2 : arg2.IsWhole) (arg3 : Memref sig .tc .vmem S1x1536x768 .f32) (harg3 : arg3.IsWhole) (arg4 : Memref sig .tc .vmem S1x768x1536 .f32) (harg4 : arg4.IsWhole) (arg5 : Memref sig .tc .vmem S256x768 .f32) (harg5 : arg5.IsWhole)
    (x0 : Vec F S256x768 .bf16) (x1 : Vec F S1x1536x768 .f32) (x2 : Vec F S1x1536x768 .f32) (x3 : Vec F S1x768x1536 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__shared_body i arg1 harg1 arg2 harg2 arg3 harg3 arg4 harg4 arg5 harg5) K := by
  simp only [cc1__shared_body_eq_skeleton]; unfold cc1__shared_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the one pipeline on core `c`: the arrays as the region finds them (`V`); after the body at
    point `t` each input's buffer at its block and each output's at `out1_W` of the input blocks; the invariant the
    class's; nothing owed;
    full shares. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => out1_4 (iblk V c 0 t) (iblk V c 1 t) (iblk V c 2 t) (iblk V c 3 t)
  Φ _ := Pipeline.ΦA spec1 c
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Proc.devRef .tc (Pipeline.arrRef spec1 w)) := by
  dsimp only [dat]

/-- What the body leaves, window by window (the proof data's `match` reduced by `dsimp`, never `rfl`: Lib/Pipeline.lean `Dat`). -/
theorem after1_0 (c : Dev nD) (t : Fin cfg1.N) : (dat V c).after 0 t = iblk V c 0 t := by dsimp only [dat]
theorem after1_1 (c : Dev nD) (t : Fin cfg1.N) : (dat V c).after 1 t = iblk V c 1 t := by dsimp only [dat]
theorem after1_2 (c : Dev nD) (t : Fin cfg1.N) : (dat V c).after 2 t = iblk V c 2 t := by dsimp only [dat]
theorem after1_3 (c : Dev nD) (t : Fin cfg1.N) : (dat V c).after 3 t = iblk V c 3 t := by dsimp only [dat]
theorem after1_4 (c : Dev nD) (t : Fin cfg1.N) : (dat V c).after 4 t = out1_4 (iblk V c 0 t) (iblk V c 1 t) (iblk V c 2 t) (iblk V c 3 t) := by dsimp only [dat]

/-- Each input's current staging buffer holds its block at every point, fetched there or not (`beforeK_W_of`). -/
theorem before1_0 (c : Dev nD) (t : Fin cfg1.N) (d) : (dat V c).before 0 t d = iblk V c 0 t :=
  before1_0_of V (dat V c) (A_eq V c 0) (after1_0 V c) t d
theorem before1_1 (c : Dev nD) (t : Fin cfg1.N) (d) : (dat V c).before 1 t d = iblk V c 1 t :=
  before1_1_of V (dat V c) (A_eq V c 1) (after1_1 V c) t d
theorem before1_2 (c : Dev nD) (t : Fin cfg1.N) (d) : (dat V c).before 2 t d = iblk V c 2 t :=
  before1_2_of V (dat V c) (A_eq V c 2) (after1_2 V c) t d
theorem before1_3 (c : Dev nD) (t : Fin cfg1.N) (d) : (dat V c).before 3 t d = iblk V c 3 t :=
  before1_3_of V (dat V c) (A_eq V c 3) (after1_3 V c) t d

/-! ## The body obligation, at a generic point -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- The body at any point: the inputs' memrefs hold their blocks (`before1_W`), so `sound_kernel` applies; the invariant and
    the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2, before1_3]
  rw [show (dat V c).Φ t.succ = (dat V c).Φ t.castSucc from rfl,
    show (dat V c).owesAt () t.succ = (dat V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel c Set.univ (grid1.coords t) _ _ _ _ _ _ _ _ _ _ (iblk V c 0 t) (iblk V c 1 t) (iblk V c 2 t) (iblk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Cert.KernelIdeal.Shared

end
-- ==== Proof.MlpFacts.lean ====
/- The conditions and offsets of the routed MLP region's body, at every point and every word read. -/
module

public import proofs.«01_k».proof.Proof.Gen.KernelIdeal.Launch
public import proofs.«01_k».proof.Proof.Gen.KernelIdeal.Skeleton
public import Idealize.ShloMosaic.Lib.WordCmp

@[expose] public section

set_option maxRecDepth 16384

namespace Cert.KernelIdeal.Mlp

open Idealize.ShloMosaic
open Cert.KernelIdeal.Gen

/-- The block `i` is a routed one. -/
theorem routed_bit : ∀ i : grid2.Coords,
    Scalar.cmpi .slt (BitVec.ofNat 32 (i 0).val) 24#32 = BitVec.ofBool (decide ((i 0).val < 24)) := by decide +kernel

theorem chain_bit : ∀ b b' : BitVec 1,
    Scalar.cmpi .ne (Scalar.extui (Scalar.andi b b') : BitVec 32) 0#32 = b &&& b' := by decide

/-- A routed block below the count read: the block the experts' products are stored for. -/
theorem cond1_iff (i : grid2.Coords) (v : BitVec 32) :
    k2_cond1 i v = 1#1 ↔ (i 0).val < 24 ∧ (BitVec.ofNat 32 (i 0).val).toInt < v.toInt := by
  have h : k2_cond1 i v = BitVec.ofBool (decide ((i 0).val < 24)) &&& Scalar.cmpi .slt (BitVec.ofNat 32 (i 0).val) v := by
    unfold k2_cond1; dsimp only; rw [chain_bit, routed_bit]
  rw [h]
  show _ &&& BitVec.ofBool (decide ((BitVec.ofNat 32 (i 0).val).toInt < v.toInt)) = 1#1 ↔ _
  by_cases h1 : (i 0).val < 24 <;> by_cases h2 : (BitVec.ofNat 32 (i 0).val).toInt < v.toInt <;> simp [h1, h2]

/-- A routed block at or past the count read: the block zeros are stored for. -/
theorem cond2_iff (i : grid2.Coords) (v : BitVec 32) :
    k2_cond2 i v = 1#1 ↔ (i 0).val < 24 ∧ ¬(BitVec.ofNat 32 (i 0).val).toInt < v.toInt := by
  have h : k2_cond2 i v = BitVec.ofBool (decide ((i 0).val < 24)) &&& Scalar.cmpi .sge (BitVec.ofNat 32 (i 0).val) v := by
    unfold k2_cond2; dsimp only; rw [chain_bit, routed_bit]
  rw [h]
  show _ &&& BitVec.ofBool (decide (v.toInt ≤ (BitVec.ofNat 32 (i 0).val).toInt)) = 1#1 ↔ _
  rw [Int.not_lt]
  by_cases h1 : (i 0).val < 24 <;> by_cases h2 : v.toInt ≤ (BitVec.ofNat 32 (i 0).val).toInt <;> simp only [h1, h2] <;> decide

/-- The combining blocks are the last eight. -/
theorem cond3_iff : ∀ i : grid2.Coords, k2_cond3 i = 1#1 ↔ 24 ≤ (i 0).val := by decide +kernel

theorem off2_eq : ∀ i : grid2.Coords, k2_off2 i = ![256 * (i 0).val, 0] := by decide +kernel
theorem off3_eq : ∀ i : grid2.Coords, k2_off3 i = ![256 * (i 0).val, 0] := by decide +kernel
theorem off4_eq : ∀ i : grid2.Coords, 24 ≤ (i 0).val → k2_off4 i = ![0, 256 * ((i 0).val - 24)] := by decide +kernel

theorem rows_inb (i : grid2.Coords) (h : (i 0).val < 24) :
    ∀ a, (![256 * (i 0).val, 0] : Fin 2 → Nat) a + S256x768.size a ≤ S6144x768.size a := by
  intro a
  fin_cases a
  · show 256 * (i 0).val + 256 ≤ 6144; omega
  · show 0 + 768 ≤ 768; omega

theorem rows_packed : ∀ i : grid2.Coords, (i 0).val < 24 → S6144x768.PackedRowsAt (EltTy.packing .bf16)
    (![256 * (i 0).val, 0] : Fin 2 → Nat) S256x768.size (fun _ => 1) := by decide +kernel

theorem packed_of_eq (i : grid2.Coords) (h : (i 0).val < 24) {off : Fin 2 → Nat} (ho : off = ![256 * (i 0).val, 0])
    (hinb : ∀ a, off a + S256x768.size a ≤ S6144x768.size a) :
    (Rect.unit (s := S6144x768) off S256x768.size hinb).PackedRows (EltTy.packing .bf16) := by
  subst ho; exact rows_packed i h

theorem chk1_all (i : grid2.Coords) (v : BitVec 32) : k2_chk1 i v := by
  constructor
  · intro h; rw [off2_eq]; exact rows_inb i ((cond1_iff i v).1 h).1
  · intro h hinb; exact packed_of_eq i ((cond1_iff i v).1 h).1 (off2_eq i) hinb

theorem chk2_all (i : grid2.Coords) (v : BitVec 32) : k2_chk2 i v := by
  constructor
  · intro h; rw [off3_eq]; exact rows_inb i ((cond2_iff i v).1 h).1
  · intro h hinb; exact packed_of_eq i ((cond2_iff i v).1 h).1 (off3_eq i) hinb

end Cert.KernelIdeal.Mlp

end
-- ==== Proof.MlpBody.lean ====
/- The routed MLP region's body: what it stores at a routed and at a combining block. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.MlpFacts
public import Idealize.ShloMosaic.Lib.Pipeline.TableIdle
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## What the body stores -/

/-- The number of blocks the router made use of, as the table holds it. -/
def cnt (x1 : Vec F S25 .i32) : BitVec 32 := x1 fun a => ⟨24, (by decide : ∀ a, 24 < S25.size a) a⟩

/-- The rows stored into the scratch array at a routed block: the expert's products below the count, zeros past it. -/
def rowsPay (i : grid2.Coords) (x1 : Vec F S25 .i32) (x2 : Vec F S2048x768 .bf16) (x3 x4 : Vec F S1x2048 .i32)
    (x5 x6 : Vec F S1x2048 .f32) (x7 x8 : Vec F S1x1536x768 .f32) (x9 : Vec F S1x768x1536 .f32) : Vec F S256x768 .bf16 :=
  if (BitVec.ofNat 32 (i 0).val).toInt < (cnt x1).toInt then
    k2_pay1 (k2_pay7 (BitVec.ofNat 32 (i 0).val) x3 x4 x5 x6) (k2_pay8 (BitVec.ofNat 32 (i 0).val) x3 x4 x2) (k2_pay9 x7) x8 x9
  else k2_pay2

theorem comb_inb (i : grid2.Coords) (h : 24 ≤ (i 0).val) :
    ∀ a, (![0, 256 * ((i 0).val - 24)] : Fin 2 → Nat) a + S1x256.size a ≤ S1x2048.size a := by
  have hi : (i 0).val < 32 := (i 0).isLt
  intro a
  fin_cases a
  · show 0 + 1 ≤ 1; omega
  · show 256 * ((i 0).val - 24) + 256 ≤ 2048; omega

/-- The block stored into the output at a combining block. -/
def combPay (i : grid2.Coords) (h : 24 ≤ (i 0).val) (x3 x4 : Vec F S1x2048 .i32) (s : Vec F S6144x768 .bf16)
    (x10 : Vec F S256x768 .f32) : Vec F S256x768 .f32 :=
  k2_pay3 (VecWindow.window x3 ![0, 256 * ((i 0).val - 24)] S1x256.size (comb_inb i h))
    (VecWindow.window x4 ![0, 256 * ((i 0).val - 24)] S1x256.size (comb_inb i h)) s x10

/-! ## The body's triples -/

set_option maxHeartbeats 1000000 in
/-- The body at a routed block. -/
theorem sound_routed (c : Dev nD) (E : Set ℕ) (i : grid2.Coords) (arg1 : Memref sig .tc .smem S25 .i32) (harg1 : arg1.IsWhole) (arg2 : Memref sig .tc .vmem S2048x768 .bf16) (harg2 : arg2.IsWhole) (arg3 : Memref sig .tc .vmem S1x2048 .i32) (harg3 : arg3.IsWhole) (arg4 : Memref sig .tc .vmem S1x2048 .i32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x1536x768 .f32) (harg7 : arg7.IsWhole) (arg8 : Memref sig .tc .vmem S1x1536x768 .f32) (harg8 : arg8.IsWhole) (arg9 : Memref sig .tc .vmem S1x768x1536 .f32) (harg9 : arg9.IsWhole) (arg10 : Memref sig .tc .vmem S256x768 .f32) (harg10 : arg10.IsWhole) (arg11 : Memref sig .tc .vmem S256x768 .f32) (harg11 : arg11.IsWhole) (arg12 : Memref sig .tc .vmem S6144x768 .bf16) (harg12 : arg12.IsWhole)
    (x1 : Vec F S25 .i32) (x2 : Vec F S2048x768 .bf16) (x3 : Vec F S1x2048 .i32) (x4 : Vec F S1x2048 .i32) (x5 : Vec F S1x2048 .f32) (x6 : Vec F S1x2048 .f32) (x7 : Vec F S1x1536x768 .f32) (x8 : Vec F S1x1536x768 .f32) (x9 : Vec F S1x768x1536 .f32) (x10 : Vec F S256x768 .f32) (y : Vec F S256x768 .f32) (s : Vec F S6144x768 .bf16) (h1 : (i 0).val < 24) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y ∗ owns (c : Thread nD τ) arg12 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y ∗ owns (c : Thread nD τ) arg12 fullShare (VecWindow.put s ![256 * (i 0).val, 0] S256x768.size (rowsPay i x1 x2 x3 x4 x5 x6 x7 x8 x9))) -∗ K ⟨⟩))
      ⊢ wp frame (wpE (defs₀ (F := F)) Variants.none c none) E (cc2__mlp_body i arg1 harg1 arg2 harg2 arg3 harg3 arg4 harg4 arg5 harg5 arg6 harg6 arg7 harg7 arg8 harg8 arg9 harg9 arg10 harg10 arg11 harg11 arg12 harg12) K := by
  simp only [cc2__mlp_body_eq_skeleton]; unfold cc2__mlp_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf1 hf2 hf3 hf4 hf5 hf6 hf7 hf8 hf9 hf10 hf11 hf12
  sl_exec (disch := first | with_reducible exact chk1_all _ _ | with_reducible exact chk2_all _ _ | with_reducible exact (fun h => absurd ((cond3_iff i).1 h) (Nat.not_le.2 h1)))
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  have hr : sound_routed.sl.r c arg1 f1 = cnt (arg1.view.read (Elt F) f1) := by
    unfold sound_routed.sl.r
    exact congrArg (arg1.view.read (Elt F) f1) (funext fun a => Fin.ext (by fin_cases a; rfl))
  rw [hr]
  by_cases hw : (BitVec.ofNat 32 (i 0).val).toInt < (cnt (arg1.view.read (Elt F) f1)).toInt
  · rw [dif_neg (fun h => ((cond2_iff i _).1 h).2 hw), dif_pos ((cond1_iff i _).2 ⟨h1, hw⟩)]
    rw [View.read_writes_cons_put _ _ _ _ _ (off2_eq i)]
    unfold rowsPay; rw [if_pos hw]
    unfold sound_routed.sl.r_1 sound_routed.sl.r_2 sound_routed.sl.r_3
    have e2 := View.readAt_full (Val := Elt F) arg2.view f2 inb_S2048x768_S2048x768_0_0
    have e3 := View.readAt_full (Val := Elt F) arg3.view f3 inb_S1x2048_S1x2048_0_0
    have e4 := View.readAt_full (Val := Elt F) arg4.view f4 inb_S1x2048_S1x2048_0_0
    have e5 := View.readAt_full (Val := Elt F) arg5.view f5 inb_S1x2048_S1x2048_0_0
    have e6 := View.readAt_full (Val := Elt F) arg6.view f6 inb_S1x2048_S1x2048_0_0
    have e7 := View.readAt_full (Val := Elt F) arg7.view f7 inb_S1x1536x768_S1x1536x768_0_0_0
    have e8 := View.readAt_full (Val := Elt F) arg8.view f8 inb_S1x1536x768_S1x1536x768_0_0_0
    have e9 := View.readAt_full (Val := Elt F) arg9.view f9 inb_S1x768x1536_S1x768x1536_0_0_0
    rw [e2, e3, e4, e5, e6, e7, e8, e9]
    rfl
  · rw [dif_pos ((cond2_iff i _).2 ⟨h1, hw⟩), dif_neg (fun h => hw ((cond1_iff i _).1 h).2)]
    rw [View.read_writes_cons_put _ _ _ _ _ (off3_eq i)]
    unfold rowsPay; rw [if_neg hw]
    rfl

set_option maxHeartbeats 1000000 in
/-- The body at a combining block. -/
theorem sound_comb (c : Dev nD) (E : Set ℕ) (i : grid2.Coords) (arg1 : Memref sig .tc .smem S25 .i32) (harg1 : arg1.IsWhole) (arg2 : Memref sig .tc .vmem S2048x768 .bf16) (harg2 : arg2.IsWhole) (arg3 : Memref sig .tc .vmem S1x2048 .i32) (harg3 : arg3.IsWhole) (arg4 : Memref sig .tc .vmem S1x2048 .i32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x1536x768 .f32) (harg7 : arg7.IsWhole) (arg8 : Memref sig .tc .vmem S1x1536x768 .f32) (harg8 : arg8.IsWhole) (arg9 : Memref sig .tc .vmem S1x768x1536 .f32) (harg9 : arg9.IsWhole) (arg10 : Memref sig .tc .vmem S256x768 .f32) (harg10 : arg10.IsWhole) (arg11 : Memref sig .tc .vmem S256x768 .f32) (harg11 : arg11.IsWhole) (arg12 : Memref sig .tc .vmem S6144x768 .bf16) (harg12 : arg12.IsWhole)
    (x1 : Vec F S25 .i32) (x2 : Vec F S2048x768 .bf16) (x3 : Vec F S1x2048 .i32) (x4 : Vec F S1x2048 .i32) (x5 : Vec F S1x2048 .f32) (x6 : Vec F S1x2048 .f32) (x7 : Vec F S1x1536x768 .f32) (x8 : Vec F S1x1536x768 .f32) (x9 : Vec F S1x768x1536 .f32) (x10 : Vec F S256x768 .f32) (y : Vec F S256x768 .f32) (s : Vec F S6144x768 .bf16) (h1 : 24 ≤ (i 0).val) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare y ∗ owns (c : Thread nD τ) arg12 fullShare s
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (combPay i h1 x3 x4 s x10) ∗ owns (c : Thread nD τ) arg12 fullShare s) -∗ K ⟨⟩))
      ⊢ wp frame (wpE (defs₀ (F := F)) Variants.none c none) E (cc2__mlp_body i arg1 harg1 arg2 harg2 arg3 harg3 arg4 harg4 arg5 harg5 arg6 harg6 arg7 harg7 arg8 harg8 arg9 harg9 arg10 harg10 arg11 harg11 arg12 harg12) K := by
  simp only [cc2__mlp_body_eq_skeleton]; unfold cc2__mlp_body_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  subst hf1 hf2 hf3 hf4 hf5 hf6 hf7 hf8 hf9 hf10 hf11 hf12
  sl_exec (disch := first | with_reducible exact chk1_all _ _ | with_reducible exact chk2_all _ _ | with_reducible exact (cond3_iff i).2 h1 | with_reducible exact (fun h => absurd ((cond1_iff i _).1 h).1 (Nat.not_lt.2 h1)) | with_reducible exact (fun h => absurd ((cond2_iff i _).1 h).1 (Nat.not_lt.2 h1)))
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    rw [View.read_writes_full]
    unfold combPay
    unfold sound_comb.sl.v18 sound_comb.sl.v22
    rw [View.readAt_unit arg3.view f3 _ (off4_eq i h1) (comb_inb i h1), View.readAt_unit arg4.view f4 _ (off4_eq i h1) (comb_inb i h1)]
    rw [View.readAt_full arg12.view f12, View.readAt_full arg10.view f10]
  iexists f12; isplitr; · ipureintro; rfl
  iexact H12

end Cert.KernelIdeal.Mlp

end
-- ==== Proof.MlpRegion.lean ====
/- The routed MLP region: its proof data, and the body obligation, over any entry contents and admissible table. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.MlpBody
public import Idealize.ShloMosaic.Lib.Pipeline.TableIdle
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : Dev nD → Valuation τ sig (Elt F)) (a : (pcfg2 (F := F)).Adm)

/-- The table of block counts the index maps and the body read. -/
def tb : Vec F S25 .i32 := a.1 0

/-- Window `w`'s block at point `t`, read off its array as the region finds it. -/
def iblk (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Proc.devRef .tc (Pipeline.arrRef spec2 w)))

/-- The rows stored into the scratch array at a routed block `t`. -/
def scrAt (c : Dev nD) (t : Fin (cfg2 a).N) : Vec F S256x768 .bf16 :=
  rowsPay (grid2.coords t) (tb a) (iblk V a c 0 t) (iblk V a c 1 t) (iblk V a c 2 t) (iblk V a c 3 t) (iblk V a c 4 t) (iblk V a c 5 t) (iblk V a c 6 t) (iblk V a c 7 t)

theorem N_eq : grid2.N = 32 := rfl

theorem blkOf_lt (y : S6144x768.Idx) : (y 0).val / 256 < grid2.N := by
  have h : (y 0).val < 6144 := (y 0).isLt
  rw [N_eq]; omega

/-- The scratch array once every routed block has run. -/
def scr (c : Dev nD) : Vec F S6144x768 .bf16 := fun y =>
  scrAt V a c ⟨(y 0).val / 256, blkOf_lt y⟩ fun k => match k with
    | ⟨0, _⟩ => ⟨(y 0).val % 256, Nat.mod_lt _ (by decide)⟩
    | ⟨1, _⟩ => y 1

theorem coords_val : ∀ t : Fin grid2.N, (grid2.coords t 0).val = t.val := by decide +kernel

/-- The block left in the output's buffer at point `t`: at a combining block what the body stores there. -/
def outAt (c : Dev nD) (t : Fin (cfg2 a).N) : Vec F S256x768 .f32 :=
  if h : 24 ≤ (grid2.coords t 0).val then combPay (grid2.coords t) h (iblk V a c 1 t) (iblk V a c 2 t) (scr V a c) (iblk V a c 8 t)
  else iblk V a c 8 t

theorem outAt_comb (c : Dev nD) (t : Fin (cfg2 a).N) (h : 24 ≤ (grid2.coords t 0).val) :
    outAt V a c t = combPay (grid2.coords t) h (iblk V a c 1 t) (iblk V a c 2 t) (scr V a c) (iblk V a c 8 t) :=
  dif_pos h

/-- The scoped buffers the region has no use for. -/
def others (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The scratch array with the rows of the first `n` routed blocks in place. -/
def scrHeld (c : Dev nD) (n : ℕ) : sProp 𝕄 :=
  iprop(∃ f : Vec F S6144x768 .bf16, ⌜∀ y : S6144x768.Idx, (y 0).val < 256 * min n 24 → f y = scr V a c y⌝
    ∗ owns (c : Thread nD τ) (Memref.whole cc2_scratch0) fullShare f)

def Φ (c : Dev nD) (n : ℕ) : sProp 𝕄 :=
  iprop(others c ∗ scrHeld V a c n ∗ owns (c : Thread nD τ) (Memref.whole main_v4) fullShare (tb a) ∗ (∃ r, prngReg c r))

def dat (c : Dev nD) : Dat τ (Elt F) Unit ℕ (UR sig nD τ) ℕ (cfg2 a) c where
  A w := V c (Proc.devRef .tc (Pipeline.arrRef spec2 w))
  after w t := match w with
    | ⟨9, _⟩ => outAt V a c t
    | ⟨0, _⟩ => iblk V a c 0 t
    | ⟨1, _⟩ => iblk V a c 1 t
    | ⟨2, _⟩ => iblk V a c 2 t
    | ⟨3, _⟩ => iblk V a c 3 t
    | ⟨4, _⟩ => iblk V a c 4 t
    | ⟨5, _⟩ => iblk V a c 5 t
    | ⟨6, _⟩ => iblk V a c 6 t
    | ⟨7, _⟩ => iblk V a c 7 t
    | ⟨8, _⟩ => iblk V a c 8 t
  Φ t := Φ V a c t.val
  q _ := fullShare
  owed _ := 0

theorem A_eq (c : Dev nD) (w : Fin (cfg2 a).W) : (dat V a c).A w = V c (Proc.devRef .tc (Pipeline.arrRef spec2 w)) := by
  dsimp only [dat]

theorem after_0 (c : Dev nD) (t : Fin (cfg2 a).N) : (dat V a c).after 0 t = iblk V a c 0 t := rfl
theorem after_1 (c : Dev nD) (t : Fin (cfg2 a).N) : (dat V a c).after 1 t = iblk V a c 1 t := rfl
theorem after_2 (c : Dev nD) (t : Fin (cfg2 a).N) : (dat V a c).after 2 t = iblk V a c 2 t := rfl
theorem after_3 (c : Dev nD) (t : Fin (cfg2 a).N) : (dat V a c).after 3 t = iblk V a c 3 t := rfl
theorem after_4 (c : Dev nD) (t : Fin (cfg2 a).N) : (dat V a c).after 4 t = iblk V a c 4 t := rfl
theorem after_5 (c : Dev nD) (t : Fin (cfg2 a).N) : (dat V a c).after 5 t = iblk V a c 5 t := rfl
theorem after_6 (c : Dev nD) (t : Fin (cfg2 a).N) : (dat V a c).after 6 t = iblk V a c 6 t := rfl
theorem after_7 (c : Dev nD) (t : Fin (cfg2 a).N) : (dat V a c).after 7 t = iblk V a c 7 t := rfl
theorem after_8 (c : Dev nD) (t : Fin (cfg2 a).N) : (dat V a c).after 8 t = iblk V a c 8 t := rfl
theorem after_9 (c : Dev nD) (t : Fin (cfg2 a).N) : (dat V a c).after 9 t = outAt V a c t := rfl

theorem before_0 (c : Dev nD) (t : Fin (cfg2 a).N) (d) : (dat V a c).before 0 t d = iblk V a c 0 t :=
  ((dat V a c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; rfl)
theorem before_1 (c : Dev nD) (t : Fin (cfg2 a).N) (d) : (dat V a c).before 1 t d = iblk V a c 1 t :=
  ((dat V a c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; rfl)
theorem before_2 (c : Dev nD) (t : Fin (cfg2 a).N) (d) : (dat V a c).before 2 t d = iblk V a c 2 t :=
  ((dat V a c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; rfl)
theorem before_3 (c : Dev nD) (t : Fin (cfg2 a).N) (d) : (dat V a c).before 3 t d = iblk V a c 3 t :=
  ((dat V a c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; rfl)
theorem before_4 (c : Dev nD) (t : Fin (cfg2 a).N) (d) : (dat V a c).before 4 t d = iblk V a c 4 t :=
  ((dat V a c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; rfl)
theorem before_5 (c : Dev nD) (t : Fin (cfg2 a).N) (d) : (dat V a c).before 5 t d = iblk V a c 5 t :=
  ((dat V a c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; rfl)
theorem before_6 (c : Dev nD) (t : Fin (cfg2 a).N) (d) : (dat V a c).before 6 t d = iblk V a c 6 t :=
  ((dat V a c).before_in_eq_fetched 6 rfl (fun _ => rfl) (fun _ _ _ => rfl)
    (fun t => by rw [after_6]; unfold Dat.blockOf iblk; rw [A_eq]; try rfl) t d).trans
    (by unfold Dat.fetched Dat.blockOf iblk; rw [A_eq]; rfl)
theorem before_7 (c : Dev nD) (t : Fin (cfg2 a).N) (d) : (dat V a c).before 7 t d = iblk V a c 7 t :=
  ((dat V a c).before_in_eq_fetched 7 rfl (fun _ => rfl) (fun _ _ _ => rfl)
    (fun t => by rw [after_7]; unfold Dat.blockOf iblk; rw [A_eq]; try rfl) t d).trans
    (by unfold Dat.fetched Dat.blockOf iblk; rw [A_eq]; rfl)
theorem before_8 (c : Dev nD) (t : Fin (cfg2 a).N) (d) : (dat V a c).before 8 t d = iblk V a c 8 t :=
  ((dat V a c).before_in_eq_fetched 8 rfl (fun _ => rfl) (fun _ _ _ => rfl)
    (fun t => by rw [after_8]; unfold Dat.blockOf iblk; rw [A_eq]; try rfl) t d).trans
    (by unfold Dat.fetched Dat.blockOf iblk; rw [A_eq]; rfl)

/-! ## The body obligation, at a generic point -/

/-- The kernel body at point `t`, on what the pipeline calls it with. -/
abbrev bodyAt (t : Fin (cfg2 a).N) : Prog (TpuEff nD τ sig (Elt F) Λ₀ .tc) PUnit :=
  cc2__mlp_body (grid2.coords t) (Memref.whole main_v4) (Memref.isWhole_whole _) (spec2_0.stage ((cfg2 a).slots t 0)) (hstage2_0 (((cfg2 a).slots t 0).cast nbuf2_0)) (spec2_1.stage ((cfg2 a).slots t 1)) (hstage2_1 (((cfg2 a).slots t 1).cast nbuf2_1)) (spec2_2.stage ((cfg2 a).slots t 2)) (hstage2_2 (((cfg2 a).slots t 2).cast nbuf2_2)) (spec2_3.stage ((cfg2 a).slots t 3)) (hstage2_3 (((cfg2 a).slots t 3).cast nbuf2_3)) (spec2_4.stage ((cfg2 a).slots t 4)) (hstage2_4 (((cfg2 a).slots t 4).cast nbuf2_4)) (spec2_5.stage ((cfg2 a).slots t 5)) (hstage2_5 (((cfg2 a).slots t 5).cast nbuf2_5)) (spec2_6.stage ((cfg2 a).slots t 6)) (hstage2_6 (((cfg2 a).slots t 6).cast nbuf2_6)) (spec2_7.stage ((cfg2 a).slots t 7)) (hstage2_7 (((cfg2 a).slots t 7).cast nbuf2_7)) (spec2_8.stage ((cfg2 a).slots t 8)) (hstage2_8 (((cfg2 a).slots t 8).cast nbuf2_8)) (spec2_9.stage ((cfg2 a).slots t 9)) (hstage2_9 (((cfg2 a).slots t 9).cast nbuf2_9)) (Memref.whole cc2_scratch0) (Memref.isWhole_whole _)

def bodyPre (c : Dev nD) (t : Fin (cfg2 a).N) : sProp 𝕄 :=
  iprop(Φ V a c t.val ∗ (dat V a c).owesAt () t.castSucc
    ∗ (∃ d, owns (c : Thread nD τ) ((win2 a 0).stage ((cfg2 a).slots t 0)) fullShare ((dat V a c).before 0 t d))
    ∗ (∃ d, owns (c : Thread nD τ) ((win2 a 1).stage ((cfg2 a).slots t 1)) fullShare ((dat V a c).before 1 t d))
    ∗ (∃ d, owns (c : Thread nD τ) ((win2 a 2).stage ((cfg2 a).slots t 2)) fullShare ((dat V a c).before 2 t d))
    ∗ (∃ d, owns (c : Thread nD τ) ((win2 a 3).stage ((cfg2 a).slots t 3)) fullShare ((dat V a c).before 3 t d))
    ∗ (∃ d, owns (c : Thread nD τ) ((win2 a 4).stage ((cfg2 a).slots t 4)) fullShare ((dat V a c).before 4 t d))
    ∗ (∃ d, owns (c : Thread nD τ) ((win2 a 5).stage ((cfg2 a).slots t 5)) fullShare ((dat V a c).before 5 t d))
    ∗ (∃ d, owns (c : Thread nD τ) ((win2 a 6).stage ((cfg2 a).slots t 6)) fullShare ((dat V a c).before 6 t d))
    ∗ (∃ d, owns (c : Thread nD τ) ((win2 a 7).stage ((cfg2 a).slots t 7)) fullShare ((dat V a c).before 7 t d))
    ∗ (∃ d, owns (c : Thread nD τ) ((win2 a 8).stage ((cfg2 a).slots t 8)) fullShare ((dat V a c).before 8 t d))
    ∗ (∃ d, owns (c : Thread nD τ) ((win2 a 9).stage ((cfg2 a).slots t 9)) fullShare ((dat V a c).before 9 t d)))

def bodyPost (c : Dev nD) (t : Fin (cfg2 a).N) (P : sProp 𝕄) : sProp 𝕄 :=
  iprop(Φ V a c (t.val + 1) ∗ (dat V a c).owesAt () t.castSucc
    ∗ owns (c : Thread nD τ) ((win2 a 0).stage ((cfg2 a).slots t 0)) fullShare ((dat V a c).after 0 t)
    ∗ owns (c : Thread nD τ) ((win2 a 1).stage ((cfg2 a).slots t 1)) fullShare ((dat V a c).after 1 t)
    ∗ owns (c : Thread nD τ) ((win2 a 2).stage ((cfg2 a).slots t 2)) fullShare ((dat V a c).after 2 t)
    ∗ owns (c : Thread nD τ) ((win2 a 3).stage ((cfg2 a).slots t 3)) fullShare ((dat V a c).after 3 t)
    ∗ owns (c : Thread nD τ) ((win2 a 4).stage ((cfg2 a).slots t 4)) fullShare ((dat V a c).after 4 t)
    ∗ owns (c : Thread nD τ) ((win2 a 5).stage ((cfg2 a).slots t 5)) fullShare ((dat V a c).after 5 t)
    ∗ owns (c : Thread nD τ) ((win2 a 6).stage ((cfg2 a).slots t 6)) fullShare ((dat V a c).after 6 t)
    ∗ owns (c : Thread nD τ) ((win2 a 7).stage ((cfg2 a).slots t 7)) fullShare ((dat V a c).after 7 t)
    ∗ owns (c : Thread nD τ) ((win2 a 8).stage ((cfg2 a).slots t 8)) fullShare ((dat V a c).after 8 t)
    ∗ P)

/-- The rows of one more routed block put in place. -/
theorem put_rows (c : Dev nD) (t : Fin (cfg2 a).N) (ht : t.val < 24) (f : Vec F S6144x768 .bf16)
    (hf : ∀ y : S6144x768.Idx, (y 0).val < 256 * min t.val 24 → f y = scr V a c y) (y : S6144x768.Idx)
    (hy : (y 0).val < 256 * min (t.val + 1) 24) :
    VecWindow.put f ![256 * (grid2.coords t 0).val, 0] S256x768.size (scrAt V a c t) y = scr V a c y := by
  have hc := coords_val t
  unfold VecWindow.put
  split_ifs with h
  · have h0 := h 0
    have e0 : (![256 * (grid2.coords t 0).val, 0] : Fin 2 → ℕ) 0 = 256 * t.val := by rw [hc]; rfl
    have e1 : S256x768.size 0 = 256 := rfl
    rw [e0, e1] at h0
    have hq : (y 0).val / 256 = t.val := by omega
    unfold scr
    have ht' : (⟨(y 0).val / 256, blkOf_lt y⟩ : Fin (cfg2 a).N) = t := Fin.ext hq
    rw [ht']
    refine congrArg _ (funext fun k => Fin.ext ?_)
    fin_cases k
    · show (y 0).val - 256 * (grid2.coords t 0).val = (y 0).val % 256
      rw [hc]; omega
    · show (y 1).val - 0 = (y 1).val
      omega
  · refine hf y ?_
    by_contra hlt
    refine h fun k => ?_
    have h1 : (y 1).val < 768 := (y 1).isLt
    fin_cases k
    · show 256 * (grid2.coords t 0).val ≤ (y 0).val ∧ (y 0).val < 256 * (grid2.coords t 0).val + 256
      rw [hc]; omega
    · show 0 ≤ (y 1).val ∧ (y 1).val < 0 + 768
      omega

set_option maxHeartbeats 1000000 in
theorem sound_body_routed (c : Dev nD) (t : Fin (cfg2 a).N) (ht : t.val < 24) :
    bodyPre V a c t ⊢ wp frame (wpE (defs₀ (F := F)) Variants.none c none) Set.univ (bodyAt a t) (fun _ => bodyPost V a c t
      iprop(∃ d, owns (c : Thread nD τ) ((win2 a 9).stage ((cfg2 a).slots t 9)) fullShare ((dat V a c).before 9 t d))) := by
  unfold bodyPre bodyPost bodyAt Φ scrHeld
  simp only [before_0, before_1, before_2, before_3, before_4, before_5, before_6, before_7, before_8]
  rw [after_0, after_1, after_2, after_3, after_4, after_5, after_6, after_7, after_8]
  iintro ⟨⟨Hoth, ⟨%f, %hf, Hs⟩, Ht, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_routed c Set.univ (grid2.coords t) _ _ _ _ _ _ _ _ _ _ _ _ _ _ _ _ _ _ _ _ _ _ _ _ (tb a) (iblk V a c 0 t) (iblk V a c 1 t) (iblk V a c 2 t) (iblk V a c 3 t) (iblk V a c 4 t) (iblk V a c 5 t) (iblk V a c 6 t) (iblk V a c 7 t) (iblk V a c 8 t) _ f ((coords_val t).symm ▸ ht) _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hs]; · iexact Hs
  iintro ⟨Ht, H0, H1, H2, H3, H4, H5, H6, H7, H8, H9, Hs⟩
  isplitl [Hoth Hs Ht Hp]
  · isplitl [Hoth]; · iexact Hoth
    isplitl [Hs]
    · iexists _; isplitr
      swap; · iexact Hs
      ipureintro
      exact fun y hy => put_rows V a c t ht f hf y hy
    isplitl [Ht]; · iexact Ht
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists d9; iexact H9

set_option maxHeartbeats 1000000 in
theorem sound_body_comb (c : Dev nD) (t : Fin (cfg2 a).N) (ht : 24 ≤ t.val) :
    bodyPre V a c t ⊢ wp frame (wpE (defs₀ (F := F)) Variants.none c none) Set.univ (bodyAt a t) (fun _ => bodyPost V a c t
      (owns (c : Thread nD τ) ((win2 a 9).stage ((cfg2 a).slots t 9)) fullShare ((dat V a c).after 9 t))) := by
  unfold bodyPre bodyPost bodyAt Φ scrHeld
  simp only [before_0, before_1, before_2, before_3, before_4, before_5, before_6, before_7, before_8]
  rw [after_0, after_1, after_2, after_3, after_4, after_5, after_6, after_7, after_8, after_9]
  have hc : 24 ≤ (grid2.coords t 0).val := by rw [coords_val t]; exact ht
  have hN : t.val < 32 := t.isLt
  rw [outAt_comb V a c t hc]
  iintro ⟨⟨Hoth, ⟨%f, %hf, Hs⟩, Ht, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hfe : f = scr V a c := funext fun y => hf y (by
    have hy : (y 0).val < 6144 := (y 0).isLt
    have : min t.val 24 = 24 := by omega
    omega)
  subst hfe
  iapply (sound_comb c Set.univ (grid2.coords t) _ _ _ _ _ _ _ _ _ _ _ _ _ _ _ _ _ _ _ _ _ _ _ _ (tb a) (iblk V a c 0 t) (iblk V a c 1 t) (iblk V a c 2 t) (iblk V a c 3 t) (iblk V a c 4 t) (iblk V a c 5 t) (iblk V a c 6 t) (iblk V a c 7 t) (iblk V a c 8 t) _ (scr V a c) hc _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hs]; · iexact Hs
  iintro ⟨Ht, H0, H1, H2, H3, H4, H5, H6, H7, H8, H9, Hs⟩
  isplitl [Hoth Hs Ht Hp]
  · isplitl [Hoth]; · iexact Hoth
    isplitl [Hs]
    · iexists _; isplitr
      swap; · iexact Hs
      ipureintro
      exact fun y hy => rfl
    isplitl [Ht]; · iexact Ht
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin (cfg2 a).N) :
    defs₀ (F := F) .tc (cfg2 a).body ((cfg2 a).bodyArgs t ((cfg2 a).slots t)) = bodyAt a t := by
  unfold defs₀; rw [Defs.onTc_tc]

theorem flush_9 (t : Fin (cfg2 a).N) : ((cfg2 a).win 9).flush t = decide (24 ≤ t.val) :=
  (show ((cfg2 a).win 9).flush t = Pipeline.Window.flushOf grid2 true cc2_transform_9 t from rfl).trans
    ((by decide +kernel : ∀ t : Fin grid2.N, Pipeline.Window.flushOf grid2 true cc2_transform_9 t = decide (24 ≤ t.val)) t)

theorem idle_9 (t : Fin (cfg2 a).N) : (cfg2 a).idle 9 ((cfg2 a).grid.coords t) = decide (t.val < 24) :=
  (by decide +kernel : ∀ t : Fin grid2.N, idle2 9 (grid2.coords t) = decide (t.val < 24)) t

set_option maxHeartbeats 1000000 in
theorem body_obligation (c : Dev nD) : BodyObligation (dat V a c) (defs₀ (F := F)) Variants.none () Set.univ := fun t => by
  rw [bigSep_W2, bigSep_W2, defs₀_row]
  by_cases ht : t.val < 24
  · rw [idle_9, flush_9, decide_eq_true ht, decide_eq_false (Nat.not_le.2 ht)]
    exact triple_restated (sound_body_routed V a c t ht) rfl .rfl fun _ => .rfl
  · rw [idle_9, decide_eq_false ht]
    exact triple_restated (sound_body_comb V a c t (Nat.not_lt.1 ht)) rfl .rfl fun _ => .rfl

/-! ## Entering and leaving -/

theorem enter (c : Dev nD) :
    iprop((Pipeline.scopedRest spec2 c ∗ (∃ r, prngReg c r)) ∗ owns (c : Thread nD τ) (Memref.whole main_v4) fullShare (tb a))
      ⊢ (Φ V a c 0 : sProp 𝕄) := by
  rw [scopedRest2_eq]; unfold Φ others scrHeld
  iintro ⟨⟨⟨H0, H1, H2, H3, H4, H5, H6, H7, H8, H9, H10, H11, H12, H13, ⟨%f, Hs⟩⟩, Hp⟩, Ht⟩
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [Hs]
  · iexists f; isplitr
    · ipureintro; intro y hy; exact absurd hy (by simp)
    rw [owns_whole]; iexact Hs
  isplitl [Ht]; · iexact Ht
  iexact Hp

theorem leave (c : Dev nD) (n : ℕ) :
    (Φ V a c n : sProp 𝕄)
      ⊢ iprop((Pipeline.scopedRest spec2 c ∗ (∃ r, prngReg c r)) ∗ owns (c : Thread nD τ) (Memref.whole main_v4) fullShare (tb a)) := by
  rw [scopedRest2_eq]; unfold Φ others scrHeld
  iintro ⟨⟨H0, H1, H2, H3, H4, H5, H6, H7, H8, H9, H10, H11, H12, H13⟩, ⟨%f, -, Hs⟩, Ht, Hp⟩
  isplitl [H0 H1 H2 H3 H4 H5 H6 H7 H8 H9 H10 H11 H12 H13 Hs Hp]
  · isplitl [H0 H1 H2 H3 H4 H5 H6 H7 H8 H9 H10 H11 H12 H13 Hs]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexists f; rw [← owns_whole]; iexact Hs
    iexact Hp
  iexact Ht

end Cert.KernelIdeal.Mlp

end
-- ==== Proof.Run.lean ====
/- The whole run: the three regions one after another with the host's operations between, from any memory to the contents
   the result and the arguments end with, over any float values at which the table of block counts is admissible. -/
module

public import proofs.«01_k».proof.Proof.Router
public import proofs.«01_k».proof.Proof.Shared
public import proofs.«01_k».proof.Proof.MlpRegion
public import proofs.«01_k».proof.Proof.Gen.KernelIdeal.Regions
public import Idealize.ShloMosaic.Lib.Pipeline.RegionArraysS
public import Idealize.ShloMosaic.Lib.Pipeline.RegionArraysTS
public import Idealize.ShloMosaic.Lib.Pipeline.FrameTail

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The unscoped buffers' contents between the items of the program -/

/-- At launch. -/
def W0 (c : Dev nD) : Valuation τ sig (Elt F) := fun b => m (c, b)
/-- Before the router's region. -/
def W1 (c : Dev nD) : Valuation τ sig (Elt F) := StableHlo.after hostOps0 (W0 m c)
/-- After it. -/
def W2 (c : Dev nD) : Valuation τ sig (Elt F) := afterRegion (Router.dat (W1 m) c) (W1 m c)
/-- Before the shared expert's region. -/
def W3 (c : Dev nD) : Valuation τ sig (Elt F) := StableHlo.after hostOps1 (W2 m c)
/-- After it. -/
def W4 (c : Dev nD) : Valuation τ sig (Elt F) := afterRegion (Shared.dat (W3 m) c) (W3 m c)
/-- Before the routed region. -/
def W5 (c : Dev nD) : Valuation τ sig (Elt F) := StableHlo.after hostOps2 (W4 m c)

/-- The table the routed region prefetches. -/
def tabs : pre2.Contents (Elt F) := fun k => W5 m 0 (Proc.devRef .tc (pre2.ref k))

variable (hok : ok2 (tabs m))

/-- The regions' tables: the routed region's, and none for the others. -/
def adm : (p : Fin 3) → (pcfgs (F := F) p).Adm := fun
  | 0 => ⟨fun k => k.elim0, trivial⟩
  | 1 => ⟨fun k => k.elim0, trivial⟩
  | 2 => ⟨tabs m, hok⟩

/-- After the routed region. -/
def W6 (c : Dev nD) : Valuation τ sig (Elt F) := afterRegion (Mlp.dat (W5 m) (adm m hok 2) c) (W5 m c)
/-- At the end. -/
def W7 (c : Dev nD) : Valuation τ sig (Elt F) := StableHlo.after hostOps3 (W6 m hok c)

/-- The regions' proof data. -/
def pdats : (p : Fin 3) → (c : Dev nD) → Dat τ (Elt F) Unit ℕ (UR sig nD τ) ℕ (Pipeline.pin (pcfgs (F := F)) (adm m hok) p) c := fun
  | 0 => fun c => Router.dat (W1 m) c
  | 1 => fun c => Shared.dat (W3 m) c
  | 2 => fun c => Mlp.dat (W5 m) (adm m hok 2) c

/-! ## No argument is written -/

theorem W2_of (c : Dev nD) (r : Ref sig .tc) (h : ∀ w, Pipeline.arrRef spec0 w = r → (spec0 w).isOut = false) : W2 m c r = W1 m c r :=
  Pipeline.afterRegion_keeps (Router.dat (W1 m) c) (W1 m c) (launch0 (F := F)).win.arr_inj (fun w => Router.A_eq (W1 m) c w) r h
theorem W4_of (c : Dev nD) (r : Ref sig .tc) (h : ∀ w, Pipeline.arrRef spec1 w = r → (spec1 w).isOut = false) : W4 m c r = W3 m c r :=
  Pipeline.afterRegion_keeps (Shared.dat (W3 m) c) (W3 m c) (launch1 (F := F)).win.arr_inj (fun w => Shared.A_eq (W3 m) c w) r h
theorem W6_of (c : Dev nD) (r : Ref sig .tc) (h : ∀ w, Pipeline.arrRef spec2 w = r → (spec2 w).isOut = false) : W6 m hok c r = W5 m c r :=
  Pipeline.afterRegion_keeps (Mlp.dat (W5 m) (adm m hok 2) c) (W5 m c) (launch2 (F := F)).win.arr_inj (fun w => Mlp.A_eq (W5 m) (adm m hok 2) c w) r h
theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h
theorem W7_of (c : Dev nD) (r : Ref sig .tc) (h : r ∉ hostOps3_W) : W7 m hok c r = W6 m hok c r :=
  StableHlo.after_of_writes_sub hostOps3 _ hostOps3_writes h

/-- A buffer no item before the routed region writes is there as launched. -/
theorem W5_arg (c : Dev nD) (r : Ref sig .tc) (h0 : r ∉ hostOps0_W) (h1 : r ∉ hostOps1_W) (h2 : r ∉ hostOps2_W)
    (g0 : ∀ w, Pipeline.arrRef spec0 w = r → (spec0 w).isOut = false) (g1 : ∀ w, Pipeline.arrRef spec1 w = r → (spec1 w).isOut = false) :
    W5 m c r = W0 m c r :=
  (W5_of m c r h2).trans <| (W4_of m c r g1).trans <| (W3_of m c r h1).trans <| (W2_of m c r g0).trans (W1_of m c r h0)

theorem W7_arg (c : Dev nD) (r : Ref sig .tc) (h0 : r ∉ hostOps0_W) (h1 : r ∉ hostOps1_W) (h2 : r ∉ hostOps2_W) (h3 : r ∉ hostOps3_W)
    (g0 : ∀ w, Pipeline.arrRef spec0 w = r → (spec0 w).isOut = false) (g1 : ∀ w, Pipeline.arrRef spec1 w = r → (spec1 w).isOut = false)
    (g2 : ∀ w, Pipeline.arrRef spec2 w = r → (spec2 w).isOut = false) : W7 m hok c r = W0 m c r :=
  (W7_of m hok c r h3).trans <| (W6_of m hok c r g2).trans (W5_arg m c r h0 h1 h2 g0 g1)

/-! ## The segments -/

/-- Every one of a TensorCore's counters may be waited on, at one level. -/
def Lset : GSem nD τ sig → Finset Unit := fun g => if g.1.2 = .tc then {()} else ∅
def lvl : GSem nD τ sig → Unit → ℕ := fun _ _ => 0

theorem cut (p : Fin 3) : Pipeline.LevelCut (pcfgs (F := F)) (adm m hok) () Lset lvl p 0 (fun _ => 0) where
  hι c w s := by unfold Lset; rw [if_pos rfl]; exact Finset.mem_singleton_self _
  hιb c w s := le_refl _
  hD c g i h := absurd h (Nat.lt_irrefl 0)

/-- What a core holds beside its buffers between two items: nothing owed, and its generator register. -/
def rest (c : Dev nD) : sProp 𝕄 :=
  iprop((∃ Wd, owes (c : Thread nD τ) ((0 : Dev nD → CellTallies nD τ sig Unit) c) Wd) ∗ (∃ r, prngReg c r) ∗ emp)

def R0 : RegionSeg (pcfgs (F := F)) (adm m hok) (pdats m hok) () defs₀ Variants.none Lset lvl 0 :=
  RegionSeg.ofHeldIn (pcfgs (F := F)) (adm m hok) (pdats m hok) () defs₀ Variants.none Lset lvl 0 0 (Pipeline.ucRefs τ sig)
    (fun c => iprop(∃ r, prngReg c r)) (fun c => iprop(∃ r, prngReg c r)) launch0 rfl
    (fun c => (Router.body_obligation (W1 m) c).loose) (fun c t => rfl) (fun c => rfl) (fun c w => by unfold Dat.share; exact ite_self _)
    (fun c => .rfl) (fun c => .rfl) (fun _ => 0) (cut m hok 0) (fun _ => iprop(emp)) (W1 m) (fun c w => Router.A_eq (W1 m) c w)

def R1 : RegionSeg (pcfgs (F := F)) (adm m hok) (pdats m hok) () defs₀ Variants.none Lset lvl 1 :=
  RegionSeg.ofHeldIn (pcfgs (F := F)) (adm m hok) (pdats m hok) () defs₀ Variants.none Lset lvl 1 0 (Pipeline.ucRefs τ sig)
    (fun c => iprop(∃ r, prngReg c r)) (fun c => iprop(∃ r, prngReg c r)) launch1 rfl
    (fun c => (Shared.body_obligation (W3 m) c).loose) (fun c t => rfl) (fun c => rfl) (fun c w => by unfold Dat.share; exact ite_self _)
    (fun c => .rfl) (fun c => .rfl) (fun _ => 0) (cut m hok 1) (fun _ => iprop(emp)) (W3 m) (fun c w => Shared.A_eq (W3 m) c w)

theorem tables_eq (c : Dev nD) : (Pipeline.tablesAt (pcfgs (F := F)) (adm m hok) 2 c : sProp 𝕄)
    = owns (c : Thread nD τ) (Memref.whole main_v4) fullShare (Mlp.tb (adm m hok 2)) := by
  show bigSep Finset.univ _ = _
  rw [owns_whole, bigSep_univ_eq_bigSepL (I := Fin 1) [0] (by decide) (by decide)]
  rfl

def R2 : RegionSeg (pcfgs (F := F)) (adm m hok) (pdats m hok) () defs₀ Variants.none Lset lvl 2 :=
  RegionSeg.ofHeldInT (pcfgs (F := F)) (adm m hok) (pdats m hok) () defs₀ Variants.none Lset lvl 2 0 (Pipeline.ucRefs τ sig)
    (fun c => iprop(∃ r, prngReg c r)) (fun c => iprop(∃ r, prngReg c r)) launch2
    (fun c => (Mlp.body_obligation (W5 m) (adm m hok 2) c).loose) (fun c t => rfl) (fun c => rfl) (fun c w => by unfold Dat.share; exact ite_self _)
    (fun c => by rw [tables_eq]; exact Mlp.enter (W5 m) (adm m hok 2) c)
    (fun c => by rw [tables_eq]; exact Mlp.leave (W5 m) (adm m hok 2) c _)
    (fun _ => 0) (cut m hok 2) (fun _ => iprop(emp)) (W5 m) (fun c w => Mlp.A_eq (W5 m) (adm m hok 2) c w)
    (fun c k => by rw [Subsingleton.elim c 0]; rfl)

def S0 : HostSeg (Ix := Unit) (Name := ℕ) (U := UR sig nD τ) (Lvl := ℕ) (pcfgs (F := F)) defs₀ Variants.none Lset lvl :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) rest
def S1 : HostSeg (Ix := Unit) (Name := ℕ) (U := UR sig nD τ) (Lvl := ℕ) (pcfgs (F := F)) defs₀ Variants.none Lset lvl :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) rest
def S2 : HostSeg (Ix := Unit) (Name := ℕ) (U := UR sig nD τ) (Lvl := ℕ) (pcfgs (F := F)) defs₀ Variants.none Lset lvl :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) rest
def S3 : HostSeg (Ix := Unit) (Name := ℕ) (U := UR sig nD τ) (Lvl := ℕ) (pcfgs (F := F)) defs₀ Variants.none Lset lvl :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m hok) rest

/-- The program's items on a core. -/
def items (c : Dev nD) : List (Seg (pcfgs (F := F)) (adm m hok) (pdats m hok) () defs₀ Variants.none Lset lvl) :=
  [.host (S0 m), .region (R0 m hok), .host (S1 m), .region (R1 m hok), .host (S2 m), .region (R2 m hok), .host (S3 m hok)]

theorem sub0 : Pipeline.arrRefs (τ := τ) (pcfgs (F := F) 0).spec ⊆ Pipeline.ucRefs τ sig := Pipeline.arrRefs_sub_ucRefs _ (launch0 (F := F)).win.arr_unscoped
theorem sub1 : Pipeline.arrRefs (τ := τ) (pcfgs (F := F) 1).spec ⊆ Pipeline.ucRefs τ sig := Pipeline.arrRefs_sub_ucRefs _ (launch1 (F := F)).win.arr_unscoped
theorem sub2 : Pipeline.arrRefs (τ := τ) (pcfgs (F := F) 2).spec ⊆ Pipeline.ucRefs τ sig := Pipeline.arrRefs_sub_ucRefs _ (launch2 (F := F)).win.arr_unscoped
theorem sub2T : Pipeline.tblRefs (τ := τ) (pcfgs (F := F) 2).pre ⊆ Pipeline.ucRefs τ sig := Pipeline.tblRefs_sub_ucRefs _ (launch2 (F := F)).pre.unscoped

theorem pre0 (c : Dev nD) : iprop(StableHlo.held (c : Thread nD τ) (Pipeline.ucRefs τ sig) (W1 m c) ∗ rest c) ⊢ (R0 m hok).pre c := by
  unfold R0 rest; exact RegionSeg.ofHeldIn_pre (Ix := Unit) (Name := ℕ) (U := UR sig nD τ) (Lvl := ℕ) (pcs := pcfgs (F := F)) (a := adm m hok) (pdats := pdats m hok) (ι := ()) (defs₀ := defs₀) (𝒱₀ := Variants.none) (L := Lset) (lv := lvl) (p := 0) (D := 0) (X := fun c => iprop(∃ r, prngReg c r)) (Y := fun c => iprop(∃ r, prngReg c r)) (R := fun _ => iprop(emp)) (W := W1 m) (sub0 (F := F)) c
theorem post0 (c : Dev nD) : (R0 m hok).post c ⊢ iprop(StableHlo.held (c : Thread nD τ) (Pipeline.ucRefs τ sig) (W2 m c) ∗ rest c) := by
  unfold R0 rest; exact RegionSeg.ofHeldIn_post (Ix := Unit) (Name := ℕ) (U := UR sig nD τ) (Lvl := ℕ) (pcs := pcfgs (F := F)) (a := adm m hok) (pdats := pdats m hok) (sub0 (F := F)) c
theorem pre1 (c : Dev nD) : iprop(StableHlo.held (c : Thread nD τ) (Pipeline.ucRefs τ sig) (W3 m c) ∗ rest c) ⊢ (R1 m hok).pre c := by
  unfold R1 rest; exact RegionSeg.ofHeldIn_pre (Ix := Unit) (Name := ℕ) (U := UR sig nD τ) (Lvl := ℕ) (pcs := pcfgs (F := F)) (a := adm m hok) (pdats := pdats m hok) (ι := ()) (defs₀ := defs₀) (𝒱₀ := Variants.none) (L := Lset) (lv := lvl) (p := 1) (D := 0) (X := fun c => iprop(∃ r, prngReg c r)) (Y := fun c => iprop(∃ r, prngReg c r)) (R := fun _ => iprop(emp)) (W := W3 m) (sub1 (F := F)) c
theorem post1 (c : Dev nD) : (R1 m hok).post c ⊢ iprop(StableHlo.held (c : Thread nD τ) (Pipeline.ucRefs τ sig) (W4 m c) ∗ rest c) := by
  unfold R1 rest; exact RegionSeg.ofHeldIn_post (Ix := Unit) (Name := ℕ) (U := UR sig nD τ) (Lvl := ℕ) (pcs := pcfgs (F := F)) (a := adm m hok) (pdats := pdats m hok) (sub1 (F := F)) c
theorem pre2 (c : Dev nD) : iprop(StableHlo.held (c : Thread nD τ) (Pipeline.ucRefs τ sig) (W5 m c) ∗ rest c) ⊢ (R2 m hok).pre c := by
  unfold R2 rest; exact RegionSeg.ofHeldInT_pre (Ix := Unit) (Name := ℕ) (U := UR sig nD τ) (Lvl := ℕ) (pcs := pcfgs (F := F)) (a := adm m hok) (pdats := pdats m hok) (ι := ()) (defs₀ := defs₀) (𝒱₀ := Variants.none) (L := Lset) (lv := lvl) (p := 2) (D := 0) (X := fun c => iprop(∃ r, prngReg c r)) (Y := fun c => iprop(∃ r, prngReg c r)) (R := fun _ => iprop(emp)) (W := W5 m) (sub2 (F := F)) (sub2T (F := F)) c
theorem post2 (c : Dev nD) : (R2 m hok).post c ⊢ iprop(StableHlo.held (c : Thread nD τ) (Pipeline.ucRefs τ sig) (W6 m hok c) ∗ rest c) := by
  unfold R2 rest; exact RegionSeg.ofHeldInT_post (Ix := Unit) (Name := ℕ) (U := UR sig nD τ) (Lvl := ℕ) (pcs := pcfgs (F := F)) (a := adm m hok) (pdats := pdats m hok) (sub2 (F := F)) (sub2T (F := F)) c

theorem deal (ρ : Dev nD → PrngReg) (c : Dev nD) : iprop(unscopedBufs c (fun b => m ((c.tc : Thread nD τ).loc b)) ∗ unscopedSems0 c
      ∗ owes (c.tc : Thread nD τ) ((0 : Dev nD → CellTallies nD τ sig Unit) c) ∅ ∗ Pipeline.launchCred 0 c ∗ prngReg c (ρ c) ∗ emp)
    ⊢ (iprop(StableHlo.held (c : Thread nD τ) (Pipeline.ucRefs τ sig) (W0 m c) ∗ rest c) : sProp 𝕄) := by
  have e : (unscopedBufs c (fun b => m ((c.tc : Thread nD τ).loc b)) : sProp 𝕄) ⊢ StableHlo.held (c : Thread nD τ) (Pipeline.ucRefs τ sig) (W0 m c) := by
    rw [← Pipeline.unscopedBufs_held (Ix := Unit) (Name := ℕ) (U := UR sig nD τ) (Lvl := ℕ) c (W0 m c)]; exact BI.Entails.refl _
  unfold rest
  iintro ⟨Hb, -, Ho, -, Hp, -⟩
  isplitl [Hb]; · iapply e; iexact Hb
  isplitl [Ho]; · iexists _; iexact Ho
  isplitl [Hp]; · iexists _; iexact Hp
  iempintro

set_option maxHeartbeats 1000000 in
set_option backward.isDefEq.respectTransparency.types false in
/-- THE RUN: every fair execution ends, the result at the last valuation, the arguments as launched, the counters at zero. -/
theorem run_main (ρ : Dev nD → PrngReg) :
    θ_run defs (onTc (τ := τ) (main (F := F))) ⟨m, fun _ => 0, ρ⟩ (fun r => (∀ c : Dev nD, r.2.mem ((c.tc : Thread nD τ).loc main_v7) = W7 m hok c main_v7 ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) ∧ r.2.sem = fun _ => 0) := by
  refine Pipeline.θ_run_regions_kit_dev_sems (pcfgs (F := F)) (adm m hok) (pdats m hok) () (cellOf_inj (adm m hok)) emb₁ defs₀ Variants.none Lset lvl m ρ main
    (items m hok)
    (fun c Q => by
      rewrite [main_chain c, Seg.run_eq_chain,
        show (items m hok c).map Seg.prog = [
          StableHlo.seq hostOps0, Prog.lift (.customCall (Pipeline.entry 0) ()),
          StableHlo.seq hostOps1, Prog.lift (.customCall (Pipeline.entry 1) ()),
          StableHlo.seq hostOps2, Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) 0
    (fun g h => by unfold Lset; rw [if_neg h]) (fun _ => iprop(emp))
    (initOf (Pipeline.cells (Pipeline.pin (pcfgs (F := F)) (adm m hok)) (cellOf_inj (adm m hok))) (Pipeline.launchToks (Pipeline.pin (pcfgs (F := F)) (adm m hok)) (cellOf_inj (adm m hok))))
    (by
      iintro Hu; imodintro
      isplitl [Hu]
      · iapply (show (ownU _ : sProp 𝕄) ⊢ BI.own (emb₁ (initOf (Pipeline.cells (Pipeline.pin (pcfgs (F := F)) (adm m hok)) (cellOf_inj (adm m hok))) (Pipeline.launchToks (Pipeline.pin (pcfgs (F := F)) (adm m hok)) (cellOf_inj (adm m hok))))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c))
    (Tₙ := fun c => StableHlo.held (c : Thread nD τ) (Pipeline.ucRefs τ sig) (W7 m hok c))
    (hch := fun c => ⟨.rfl, pre0 m hok c, post0 m hok c, pre1 m hok c, post1 m hok c, pre2 m hok c, post2 m hok c, sep_mono .rfl (by unfold rest; iintro ⟨H, -⟩; iexact H)⟩)
    (hinit := ?_) (QY := fun c s => s.mem ((c.tc : Thread nD τ).loc main_v7) = W7 m hok c main_v7 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred 0 c ∗ prngReg c (ρ c) ∗ emp))
        ⊢ (bigSep Finset.univ fun c : Dev nD => iprop(StableHlo.held (c : Thread nD τ) (Pipeline.ucRefs τ sig) (W0 m c) ∗ rest c) : sProp 𝕄) := by
      exact bigSep_mono fun c _ => deal m ρ c
    iintro ⟨H, Hla⟩
    imodintro
    iapply hsplit; iexact H
  · unfold StableHlo.held
    iintro ⟨Hh, HSI⟩
    ihave Hr := (pointsTo_read_all (Pipeline.ucRefs τ sig) (fun b => ((c : Thread nD τ).1, b)) (W7 m hok c) s') $$ [Hh HSI]
    · isplitl [Hh] <;> iassumption
    icases Hr with ⟨%h, HSI⟩
    imodintro
    isplitr
    · ipureintro
      exact ⟨h (Proc.devRef .tc main_v7) (Finset.mem_filter.mpr ⟨StableHlo.devRef_mem_tcRefs main_v7, by decide⟩), (h (Proc.devRef .tc main_arg0) (Finset.mem_filter.mpr ⟨StableHlo.devRef_mem_tcRefs main_arg0, by decide⟩)).trans (W7_arg m hok c main_arg0 (by decide) (by decide) (by decide) (by decide) (by decide) (by decide) (by decide)), (h (Proc.devRef .tc main_arg1) (Finset.mem_filter.mpr ⟨StableHlo.devRef_mem_tcRefs main_arg1, by decide⟩)).trans (W7_arg m hok c main_arg1 (by decide) (by decide) (by decide) (by decide) (by decide) (by decide) (by decide)), (h (Proc.devRef .tc main_arg2) (Finset.mem_filter.mpr ⟨StableHlo.devRef_mem_tcRefs main_arg2, by decide⟩)).trans (W7_arg m hok c main_arg2 (by decide) (by decide) (by decide) (by decide) (by decide) (by decide) (by decide)), (h (Proc.devRef .tc main_arg3) (Finset.mem_filter.mpr ⟨StableHlo.devRef_mem_tcRefs main_arg3, by decide⟩)).trans (W7_arg m hok c main_arg3 (by decide) (by decide) (by decide) (by decide) (by decide) (by decide) (by decide)), (h (Proc.devRef .tc main_arg4) (Finset.mem_filter.mpr ⟨StableHlo.devRef_mem_tcRefs main_arg4, by decide⟩)).trans (W7_arg m hok c main_arg4 (by decide) (by decide) (by decide) (by decide) (by decide) (by decide) (by decide)), (h (Proc.devRef .tc main_arg5) (Finset.mem_filter.mpr ⟨StableHlo.devRef_mem_tcRefs main_arg5, by decide⟩)).trans (W7_arg m hok c main_arg5 (by decide) (by decide) (by decide) (by decide) (by decide) (by decide) (by decide)), (h (Proc.devRef .tc main_arg6) (Finset.mem_filter.mpr ⟨StableHlo.devRef_mem_tcRefs main_arg6, by decide⟩)).trans (W7_arg m hok c main_arg6 (by decide) (by decide) (by decide) (by decide) (by decide) (by decide) (by decide)), (h (Proc.devRef .tc main_arg7) (Finset.mem_filter.mpr ⟨StableHlo.devRef_mem_tcRefs main_arg7, by decide⟩)).trans (W7_arg m hok c main_arg7 (by decide) (by decide) (by decide) (by decide) (by decide) (by decide) (by decide))⟩
    · iexact HSI

end Cert.KernelIdeal.Run

end
-- ==== Proof.Vals.lean ====
/- What the regions leave in their arrays, over any float values: the router's five results, the shared expert's rows and
   the routed region's rows, as terms of the argument arrays. -/
module

public import proofs.«01_k».proof.Proof.Run
public import Idealize.ShloMosaic.Lib.Pipeline.ValueKit

@[expose] public section

set_option maxRecDepth 16384

noncomputable section

namespace Cert.KernelIdeal.Run

open Idealize.ShloMosaic Idealize.ShloMosaic.TcCoe
open Idealize.SL.Sem
open Idealize.ShloMosaic.Pipeline (Dat afterRegion)
open Cert.KernelIdeal.Gen

variable {F : FTy → Type} [FloatOps F]
variable (m : (ℓ : Loc nD τ sig) → Buf (Elt F) ℓ)

/-- The token rows. -/
def X (c : Dev nD) : FVec F S2048x768 .f32 := shapeCast S2048x768 (m ((c : Thread nD τ).loc main_arg0)) shapeCasts_S1x2048x768_S2048x768
/-- The router's weights. -/
def GW (c : Dev nD) : FVec F S8x768 .f32 := m ((c : Thread nD τ).loc main_arg1)
/-- The token rows, rounded. -/
def XB (c : Dev nD) : FVec F S2048x768 .bf16 := truncf .bf16 (X m c) bitsLt_bf16_f32

theorem W1_v0 (c : Dev nD) : W1 m c main_v0 = X m c := by
  unfold W1; rw [StableHlo.after_cons, StableHlo.after_nil, StableHlo.reshape_result]; rfl
theorem W1_arg1 (c : Dev nD) : W1 m c main_arg1 = GW m c := W1_of m c main_arg1 (by decide)

/-! ## The router's results -/

section
variable (x : FVec F S2048x768 .f32) (g : FVec F S8x768 .f32)
/-- The one-hot columns of each token's best and second best expert. -/
def oh1 : FVec F S8x2048 .f32 := k0_pay7 x g
def oh2 : FVec F S8x2048 .f32 := k0_pay10 x g
def pos1 : IVec S1x2048 32 := k0_pay1 (k0_pay18 (oh1 x g) (oh2 x g))
def pos2 : IVec S1x2048 32 := k0_pay2 (oh2 x g) (k0_pay14 (oh1 x g) (oh2 x g)) (k0_pay17 (oh1 x g) (oh2 x g))
def wt1 : FVec F S1x2048 .f32 := k0_pay12 (k0_pay6 x g) (k0_pay11 x g)
def wt2 : FVec F S1x2048 .f32 := k0_pay13 (k0_pay9 x g) (k0_pay11 x g)
def bexp : IVec S1x25 32 := k0_pay3 (k0_pay16 (oh1 x g) (oh2 x g))
theorem out0_2_eq : Router.out0_2 x g = pos1 x g := by
  unfold Router.out0_2 pos1 oh1 oh2 Router.k0_pay19 Router.k0_pay20 Router.r0_2 Router.r0_0 Router.r0_1
  rw [View.canon_unit_zero (by funext a; fin_cases a <;> rfl), View.ld_unit_zero (by funext a; fin_cases a <;> rfl), View.ld_unit_zero (by funext a; fin_cases a <;> rfl)]
theorem out0_3_eq : Router.out0_3 x g = pos2 x g := by
  unfold Router.out0_3 pos2 oh1 oh2 Router.k0_pay19 Router.k0_pay20 Router.r0_2 Router.r0_0 Router.r0_1
  rw [View.canon_unit_zero (by funext a; fin_cases a <;> rfl), View.ld_unit_zero (by funext a; fin_cases a <;> rfl), View.ld_unit_zero (by funext a; fin_cases a <;> rfl)]
theorem out0_4_eq : Router.out0_4 x g = wt1 x g := by
  unfold Router.out0_4 wt1 Router.r0_2 Router.r0_0 Router.r0_1
  rw [View.canon_unit_zero (by funext a; fin_cases a <;> rfl), View.ld_unit_zero (by funext a; fin_cases a <;> rfl), View.ld_unit_zero (by funext a; fin_cases a <;> rfl)]
theorem out0_5_eq : Router.out0_5 x g = wt2 x g := by
  unfold Router.out0_5 wt2 Router.r0_2 Router.r0_0 Router.r0_1
  rw [View.canon_unit_zero (by funext a; fin_cases a <;> rfl), View.ld_unit_zero (by funext a; fin_cases a <;> rfl), View.ld_unit_zero (by funext a; fin_cases a <;> rfl)]
theorem out0_6_eq : Router.out0_6 x g = bexp x g := by
  unfold Router.out0_6 bexp oh1 oh2 Router.k0_pay19 Router.k0_pay20 Router.r0_3 Router.r0_0 Router.r0_1
  rw [View.canon_unit_zero (by funext a; fin_cases a <;> rfl), View.ld_unit_zero (by funext a; fin_cases a <;> rfl), View.ld_unit_zero (by funext a; fin_cases a <;> rfl)]
end

theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)
theorem iblk0_0 (c : Dev nD) (t : Fin cfg0.N) : Router.iblk (W1 m) c 0 t = X m c := by
  rw [← W1_v0]; blk_ext! [Router.iblk, idx0 t]
theorem iblk0_1 (c : Dev nD) (t : Fin cfg0.N) : Router.iblk (W1 m) c 1 t = GW m c := by
  rw [← W1_arg1]; blk_ext! [Router.iblk, idx0 t]
theorem W2_v1_0 (c : Dev nD) : W2 m c main_v1_0 = pos1 (X m c) (GW m c) := by
  refine (Pipeline.afterRegion_arr (Router.dat (W1 m) c) (W1 m c) (launch0 (F := F)).win.arr_inj 2).trans ?_
  refine (Router.dat (W1 m) c).arrAt_eq_of_covers 2 _ (by decide +kernel) fun t _ y => ?_
  blk_simp
  rw [Router.after0_2, iblk0_0, iblk0_1, out0_2_eq]
  blk_ext [idx0 t]
theorem W2_v1_1 (c : Dev nD) : W2 m c main_v1_1 = pos2 (X m c) (GW m c) := by
  refine (Pipeline.afterRegion_arr (Router.dat (W1 m) c) (W1 m c) (launch0 (F := F)).win.arr_inj 3).trans ?_
  refine (Router.dat (W1 m) c).arrAt_eq_of_covers 3 _ (by decide +kernel) fun t _ y => ?_
  blk_simp
  rw [Router.after0_3, iblk0_0, iblk0_1, out0_3_eq]
  blk_ext [idx0 t]
theorem W2_v1_2 (c : Dev nD) : W2 m c main_v1_2 = wt1 (X m c) (GW m c) := by
  refine (Pipeline.afterRegion_arr (Router.dat (W1 m) c) (W1 m c) (launch0 (F := F)).win.arr_inj 4).trans ?_
  refine (Router.dat (W1 m) c).arrAt_eq_of_covers 4 _ (by decide +kernel) fun t _ y => ?_
  blk_simp
  rw [Router.after0_4, iblk0_0, iblk0_1, out0_4_eq]
  blk_ext [idx0 t]
theorem W2_v1_3 (c : Dev nD) : W2 m c main_v1_3 = wt2 (X m c) (GW m c) := by
  refine (Pipeline.afterRegion_arr (Router.dat (W1 m) c) (W1 m c) (launch0 (F := F)).win.arr_inj 5).trans ?_
  refine (Router.dat (W1 m) c).arrAt_eq_of_covers 5 _ (by decide +kernel) fun t _ y => ?_
  blk_simp
  rw [Router.after0_5, iblk0_0, iblk0_1, out0_5_eq]
  blk_ext [idx0 t]
theorem W2_v1_4 (c : Dev nD) : W2 m c main_v1_4 = bexp (X m c) (GW m c) := by
  refine (Pipeline.afterRegion_arr (Router.dat (W1 m) c) (W1 m c) (launch0 (F := F)).win.arr_inj 6).trans ?_
  refine (Router.dat (W1 m) c).arrAt_eq_of_covers 6 _ (by decide +kernel) fun t _ y => ?_
  blk_simp
  rw [Router.after0_6, iblk0_0, iblk0_1, out0_6_eq]
  blk_ext [idx0 t]

/-! ## Before the shared region and the routed region -/

theorem W4_v1_0 (c : Dev nD) : W4 m c main_v1_0 = pos1 (X m c) (GW m c) :=
  (W4_of m c main_v1_0 (by decide)).trans <| (W3_of m c main_v1_0 (by decide)).trans (W2_v1_0 m c)
theorem W5_v1_0 (c : Dev nD) : W5 m c main_v1_0 = pos1 (X m c) (GW m c) := (W5_of m c main_v1_0 (by decide)).trans (W4_v1_0 m c)
theorem W5_v1_1 (c : Dev nD) : W5 m c main_v1_1 = pos2 (X m c) (GW m c) :=
  (W5_of m c main_v1_1 (by decide)).trans <| (W4_of m c main_v1_1 (by decide)).trans <| (W3_of m c main_v1_1 (by decide)).trans (W2_v1_1 m c)
theorem W5_v1_2 (c : Dev nD) : W5 m c main_v1_2 = wt1 (X m c) (GW m c) :=
  (W5_of m c main_v1_2 (by decide)).trans <| (W4_of m c main_v1_2 (by decide)).trans <| (W3_of m c main_v1_2 (by decide)).trans (W2_v1_2 m c)
theorem W5_v1_3 (c : Dev nD) : W5 m c main_v1_3 = wt2 (X m c) (GW m c) :=
  (W5_of m c main_v1_3 (by decide)).trans <| (W4_of m c main_v1_3 (by decide)).trans <| (W3_of m c main_v1_3 (by decide)).trans (W2_v1_3 m c)
theorem W4_v1_4 (c : Dev nD) : W4 m c main_v1_4 = bexp (X m c) (GW m c) :=
  (W4_of m c main_v1_4 (by decide)).trans <| (W3_of m c main_v1_4 (by decide)).trans (W2_v1_4 m c)
theorem W2_v0 (c : Dev nD) : W2 m c main_v0 = X m c := (W2_of m c main_v0 (by decide)).trans (W1_v0 m c)
theorem W4_v0 (c : Dev nD) : W4 m c main_v0 = X m c :=
  (W4_of m c main_v0 (by decide)).trans <| (W3_of m c main_v0 (by decide)).trans (W2_v0 m c)

theorem W3_v2 (c : Dev nD) : W3 m c main_v2 = XB m c := by
  unfold W3; rw [StableHlo.after_cons, StableHlo.after_nil, StableHlo.unary_result, W2_v0]; rfl
theorem W5_v5 (c : Dev nD) : W5 m c main_v5 = XB m c := by
  unfold W5; rw [StableHlo.after_cons, StableHlo.after_cons, StableHlo.after_nil, StableHlo.unary_result, StableHlo.reshape_result_ne _ _ _ _ _ _ _ (by decide), W4_v0]; rfl
theorem W5_v4 (c : Dev nD) : W5 m c main_v4 = shapeCast S25 (bexp (X m c) (GW m c)) shapeCasts_S1x25_S25 := by
  unfold W5; rw [StableHlo.after_cons, StableHlo.after_cons, StableHlo.after_nil, StableHlo.unary_result_ne _ _ _ _ _ _ (by decide), StableHlo.reshape_result, W4_v1_4]; rfl

end Cert.KernelIdeal.Run

end
-- ==== Proof.Consts.lean ====
/- The float constants the programs use, as the numbers they are. -/
module

public import Idealize.ShloMosaic.PureOps.Ideal
public import Idealize.ShloMosaic.Lib.IdealHost

@[expose] public section

noncomputable section

namespace Cert.Num

open Idealize.ShloMosaic

theorem c256 : Ideal.ofBits .f32 0x43800000#32 = ((256 : ℝ) : EReal) := by
  simp [Ideal.ofBits, Ideal.ieee, -EReal.coe_mul]; norm_num
theorem c255 : Ideal.ofBits .f32 0x437F0000#32 = ((255 : ℝ) : EReal) := by
  simp [Ideal.ofBits, Ideal.ieee, -EReal.coe_mul]; norm_num
theorem cInv256 : Ideal.ofBits .f32 0x3B800000#32 = ((1 / 256 : ℝ) : EReal) := by
  simp [Ideal.ofBits, Ideal.ieee, -EReal.coe_mul]; norm_num
theorem c7 : Ideal.ofBits .f32 0x40E00000#32 = ((7 : ℝ) : EReal) := by
  simp [Ideal.ofBits, Ideal.ieee, -EReal.coe_mul]; norm_num
theorem c24 : Ideal.ofBits .f32 0x41C00000#32 = ((24 : ℝ) : EReal) := by
  simp [Ideal.ofBits, Ideal.ieee, -EReal.coe_mul]; norm_num
theorem c8 : Ideal.ofBits .f32 0x41000000#32 = ((8 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem cNegInf : Ideal.ofBits .f32 0xFF800000#32 = ⊥ := by
  simp [Ideal.ofBits, Ideal.ieee, -EReal.coe_mul]
theorem cInf : Ideal.ofBits .f32 0x7F800000#32 = ⊤ := by
  simp [Ideal.ofBits, Ideal.ieee, -EReal.coe_mul]
theorem cEps : ∃ ε : ℝ, 0 < ε ∧ Ideal.ofBits .f32 0x322BCC77#32 = (ε : EReal) := by
  refine ⟨11258999 * 2 ^ (-50 : ℤ), by positivity, ?_⟩
  simp [Ideal.ofBits, Ideal.ieee, -EReal.coe_mul]; try norm_num

end Cert.Num

end
-- ==== Proof.TableOk.lean ====
/- The table of block experts is admissible: what it holds of the routed blocks, at words and at extended reals. -/
module

public import proofs.«01_k».proof.Proof.Vals
public import proofs.«01_k».proof.Proof.Consts
public import Idealize.ShloMosaic.Lib.Pointwise
public import Idealize.ShloMosaic.Lib.NatWords
public import Idealize.ShloMosaic.Lib.NatWordsOrder

@[expose] public section

set_option maxRecDepth 16384

noncomputable section

namespace Cert.KernelIdeal.Run

open Idealize.ShloMosaic Idealize.ShloMosaic.TcCoe
open Idealize.SL.Sem
open Cert.KernelIdeal.Gen

variable {F : FTy → Type} [FloatOps F]

/-- The table entry a block reads its expert from. -/
def tabPos (i : grid2.Coords) : Fin 25 := ⟨min (i 0).val 23, by omega⟩

theorem off1_val : ∀ i : grid2.Coords, k2_off1 i 0 = min (i 0).val 23 := by decide +kernel

theorem at_tabPos (pf : Cert.KernelIdeal.pre2.Contents (Elt F)) (i : grid2.Coords) :
    (pf.at 0 (Rect.unit (s := S25) (k2_off1 i) (Shape.size Cert.KernelIdeal.S1) (k2_off1_inb i)) numel1_S1 : BitVec 32) = (pf 0 : IVec S25 32) (ix1 (tabPos i)) := by
  refine congrArg (pf 0 : IVec S25 32) ?_
  funext a
  fin_cases a
  refine Fin.ext ?_
  show k2_off1 i 0 + 1 * 0 = min (i 0).val 23
  rw [off1_val]; rfl

/-- The expert block `i` draws, from the table's entry. -/
def draw (v : BitVec 32) : Nat := (Scalar.minsi v 7#32).toNat

theorem draw_lt (v : BitVec 32) (h : 0 ≤ v.toInt) : draw v < 8 := by
  unfold draw Scalar.minsi IntOp.minsi
  have hv := BitVec.toInt_eq_toNat_cond v
  have hl := v.isLt
  have h7 : (7#32 : BitVec 32).toInt = 7 := by decide
  have h7' : (7#32 : BitVec 32).toNat = 7 := by decide
  split_ifs with hc
  · rw [BitVec.slt_eq_decide, decide_eq_true_eq, h7] at hc
    split_ifs at hv <;> omega
  · omega

theorem transform5 (pf : Cert.KernelIdeal.pre2.Contents (Elt F)) (i : grid2.Coords) :
    cc2_transform_5 k2_off1_inb numel1_S1 pf i = ![draw ((pf 0 : IVec S25 32) (ix1 (tabPos i))), 0, 0] := by
  exact congrArg (fun v : BitVec 32 => (![draw v, 0, 0] : Fin 3 → Nat)) (at_tabPos pf i)
theorem transform6 (pf : Cert.KernelIdeal.pre2.Contents (Elt F)) (i : grid2.Coords) :
    cc2_transform_6 k2_off1_inb numel1_S1 pf i = ![draw ((pf 0 : IVec S25 32) (ix1 (tabPos i))), 0, 0] := by
  exact congrArg (fun v : BitVec 32 => (![draw v, 0, 0] : Fin 3 → Nat)) (at_tabPos pf i)
theorem transform7 (pf : Cert.KernelIdeal.pre2.Contents (Elt F)) (i : grid2.Coords) :
    cc2_transform_7 k2_off1_inb numel1_S1 pf i = ![draw ((pf 0 : IVec S25 32) (ix1 (tabPos i))), 0, 0] := by
  exact congrArg (fun v : BitVec 32 => (![draw v, 0, 0] : Fin 3 → Nat)) (at_tabPos pf i)

/-- Nonnegative entries for the routed blocks make the table admissible. -/
theorem ok2_of (pf : Cert.KernelIdeal.pre2.Contents (Elt F)) (h : ∀ k : Fin 25, k.val < 24 → 0 ≤ ((pf 0 : IVec S25 32) (ix1 k)).toInt) : ok2 pf := by
  have hd : ∀ i : grid2.Coords, draw ((pf 0 : IVec S25 32) (ix1 (tabPos i))) < 8 := fun i =>
    draw_lt _ (h _ (by show min (i 0).val 23 < 24; omega))
  refine ⟨fun i => ⟨fun a => ?_, .inl rfl⟩, fun i => ⟨fun a => ?_, .inl rfl⟩, fun i => ⟨fun a => ?_, .inl rfl⟩⟩
  · rw [transform5]
    have := hd i
    fin_cases a
    · show (draw _ + 1) * 1 ≤ 8; omega
    · show (0 + 1) * 1536 ≤ 1536; omega
    · show (0 + 1) * 768 ≤ 768; omega
  · rw [transform6]
    have := hd i
    fin_cases a
    · show (draw _ + 1) * 1 ≤ 8; omega
    · show (0 + 1) * 1536 ≤ 1536; omega
    · show (0 + 1) * 768 ≤ 768; omega
  · rw [transform7]
    have := hd i
    fin_cases a
    · show (draw _ + 1) * 1 ≤ 8; omega
    · show (0 + 1) * 768 ≤ 768; omega
    · show (0 + 1) * 1536 ≤ 1536; omega

theorem tabs_eq (m : (ℓ : Loc nD τ sig) → Buf (Elt F) ℓ) (k : Fin 25) :
    (tabs m 0 : IVec S25 32) (ix1 k) = bexp (X m 0) (GW m 0) (Idealize.ShloMosaic.ix2 0 k) := by
  show (W5 m 0 main_v4 : IVec S25 32) (ix1 k) = _
  rw [W5_v4]
  pointwise

theorem w24 : (FloatOps.ofBits (F := Bits) FTy.f32 1103101952#32) = Bits.f32OfNat 24 := by
  rw [Bits.f32OfNat_eq 24 (by decide)]; decide
theorem w7 : (FloatOps.ofBits (F := Bits) FTy.f32 1088421888#32) = Bits.f32OfNat 7 := by
  rw [Bits.f32OfNat_eq 7 (by decide)]; decide

theorem bexpBits (v : FVec Bits S8x1 .f32) (k : Fin 25) (hk : k.val < 24) : 0 ≤ (k0_pay3 v (Idealize.ShloMosaic.ix2 0 k)).toInt := by
  pointwise [k0_pay3]
  have hc : FloatOps.cmpf (F := Bits) (φ := .f32) CmpFPredicate.oge (FloatOps.sitofp (F := Bits) FTy.f32 (BitVec.ofNat 32 k.val)) (FloatOps.ofBits FTy.f32 1103101952#32) = 0#1 := by
    rw [w24]
    show Bits.cmpf32 .oge (Bits.sitofp32 (BitVec.ofNat 32 k.val)) (Bits.f32OfNat 24) = _
    rw [Bits.sitofp32_ofNat (by omega), Bits.cmpf32_oge_nat (by omega) (by decide), decide_eq_false (by omega)]
    rfl
  rw [hc, w7]
  show 0 ≤ (Bits.fptosi32 32 (Bits.minf32 (Bits.reduceAdd .f32 [0] reduces_S8x25_S25 _ (ix1 k)) _)).toInt
  generalize hG : (cmpf (F := Bits) (φ := .f32) CmpFPredicate.oge _ _ : IVec S8x25 1) = G
  have hn : ∀ b : BitVec 1, Bits.natOfF32? (FloatOps.sitofp (F := Bits) .f32 (b.setWidth 32)) = some b.toNat := by
    intro b
    have hb := b.isLt
    have e : b.setWidth 32 = BitVec.ofNat 32 b.toNat := by
      apply BitVec.eq_of_toNat_eq; simp
    rw [e]
    show Bits.natOfF32? (Bits.sitofp32 (BitVec.ofNat 32 b.toNat)) = _
    rw [Bits.sitofp32_ofNat (by omega), Bits.natOfF32?_f32OfNat _ (by omega)]
  have hS : (Bits.reduceFiber reduces_S8x25_S25 (ix1 k)).sum (fun i => (G i).toNat) < 2 ^ 24 := by
    have h1 : (Bits.reduceFiber reduces_S8x25_S25 (ix1 k)).sum (fun i => (G i).toNat) ≤ (Bits.reduceFiber reduces_S8x25_S25 (ix1 k)).card • 1 :=
      Finset.sum_le_card_nsmul _ _ _ fun i _ => by have := (G i).isLt; omega
    have h2 : (Bits.reduceFiber reduces_S8x25_S25 (ix1 k)).card ≤ (Finset.univ : Finset S8x25.Idx).card := Finset.card_filter_le _ _
    have h3 : (Finset.univ : Finset S8x25.Idx).card = 200 := by
      rw [Finset.card_univ]; decide +kernel
    rw [h3] at h2
    simp only [smul_eq_mul, mul_one] at h1
    omega
  have hr := Bits.reduceAdd_nat [0] reduces_S8x25_S25 (sitofp FTy.f32 (extui 32 G natLt_1_32)) (ix1 k) (fun i => (G i).toNat) (fun i _ => hn (G i)) hS
  rw [hr, Bits.minf32_nat_le (by omega) (by omega), Bits.fptosi32_nat _ (by omega)]
  generalize (Bits.reduceFiber reduces_S8x25_S25 (ix1 k)).sum (fun i => (G i).toNat) = N
  have hN : min N 7 < 8 := by omega
  have : ∀ n : Fin 8, 0 ≤ (BitVec.ofNat 32 n.val).toInt := by decide
  exact this ⟨_, hN⟩

theorem sitofp_bit (b : Bool) : FloatOps.sitofp (F := Ideal) .f32 (BitVec.setWidth 32 (BitVec.ofBool b)) = if b then (1 : EReal) else 0 := by
  show (((BitVec.setWidth 32 (BitVec.ofBool b)).toInt : ℝ) : EReal) = _
  cases b
  · rw [show (BitVec.setWidth 32 (BitVec.ofBool false)).toInt = 0 by decide]; simp
  · rw [show (BitVec.setWidth 32 (BitVec.ofBool true)).toInt = 1 by decide]; simp

theorem sitofp_nat (n : ℕ) (h : n < 2 ^ 31) : FloatOps.sitofp (F := Ideal) .f32 (BitVec.ofNat 32 n) = ((n : ℝ) : EReal) := by
  show (((BitVec.ofNat 32 n).toInt : ℝ) : EReal) = _
  rw [BitVec.toInt_eq_toNat_cond, BitVec.toNat_ofNat, Nat.mod_eq_of_lt (by omega), if_pos (by omega)]
  push_cast; rfl

theorem fptosi_nat (n : ℕ) (h : n < 2 ^ 31) : Ideal.fptosi 32 ((n : ℝ) : EReal) = BitVec.ofNat 32 n := by
  unfold Ideal.fptosi
  show BitVec.ofInt 32 (max _ (min _ (if (0:ℝ) ≤ (n : ℝ) then ⌊(n : ℝ)⌋ else _))) = _
  rw [if_pos (Nat.cast_nonneg n), Int.floor_natCast, min_eq_right (by push_cast; omega), max_eq_right (by push_cast; omega)]
  rfl

theorem sum_bits {n : ℕ} (p : Fin n → Prop) [DecidablePred p] :
    (∑ x, if p x then (1 : EReal) else 0) = (((Finset.univ.filter p).card : ℝ) : EReal) := by
  rw [Finset.card_filter]
  push_cast
  induction (Finset.univ : Finset (Fin n)) using Finset.induction_on with
  | empty => simp
  | insert a s ha ih => rw [Finset.sum_insert ha, Finset.sum_insert ha, EReal.coe_add, ih]; split_ifs <;> simp

theorem ofNat_toInt (n : ℕ) (h : n < 2 ^ 31) : (BitVec.ofNat 32 n).toInt = n := by
  rw [BitVec.toInt_eq_toNat_cond, BitVec.toNat_ofNat, Nat.mod_eq_of_lt (by omega), if_pos (by omega)]

theorem bexpIdeal (v : FVec Ideal S8x1 .f32) (k : Fin 25) (hk : k.val < 24) :
    k0_pay3 v (Idealize.ShloMosaic.ix2 0 k)
      = BitVec.ofNat 32 (min (Finset.univ.filter fun e : Fin 8 => v (Idealize.ShloMosaic.ix2 e 0) ≤ (((256 * k.val : ℕ) : ℝ) : EReal)).card 7) := by
  pointwise [k0_pay3]
  simp only [sitofp_nat k.val (by omega), sitofp_bit, Cert.Num.c24, Cert.Num.c256, Cert.Num.c7]
  have h24 : ¬ (((24 : ℝ) : EReal) ≤ ((k.val : ℝ) : EReal)) := by
    rw [EReal.coe_le_coe_iff, not_le]
    exact_mod_cast hk
  rw [if_neg h24]
  have e : ((k.val : ℝ) : EReal) * ((256 : ℝ) : EReal) = (((256 * k.val : ℕ) : ℝ) : EReal) := by
    rw [← EReal.coe_mul]; push_cast; rw [mul_comm]
  simp only [e, decide_eq_true_eq]
  rw [sum_bits, show ((7 : ℝ) : EReal) = (((7 : ℕ) : ℝ) : EReal) by norm_num]
  generalize Finset.card _ = N
  rw [← fptosi_nat _ (by omega)]
  refine congrArg (Ideal.fptosi 32) ?_
  rw [← EReal.coe_strictMono.monotone.map_min, Nat.cast_min]

theorem ok2_bits (m : (ℓ : Loc nD τ sig) → Buf (Elt Bits) ℓ) : ok2 (tabs m) :=
  ok2_of _ fun k hk => by rw [tabs_eq]; exact bexpBits _ k hk

theorem ok2_ideal (m : (ℓ : Loc nD τ sig) → Buf (Elt Ideal) ℓ) : ok2 (tabs m) :=
  ok2_of _ fun k hk => by
    rw [tabs_eq]
    refine le_of_le_of_eq ?_ (congrArg BitVec.toInt (bexpIdeal _ k hk)).symm
    rw [ofNat_toInt _ (by omega)]
    omega

end Cert.KernelIdeal.Run
end
-- ==== Proof.IFrames.lean ====
/- The frame of the kernel read over the extended reals. -/
module

public import proofs.«01_k».proof.Defs
public import proofs.«01_k».proof.Proof.TableOk

@[expose] public section
noncomputable section
namespace Cert.Proof
open Idealize.ShloMosaic Idealize.ShloMosaic.TcCoe Idealize.SL.Sem

theorem frame_kernelIdeal : Cert.quiescent_KernelIdeal := fun m ρ _ =>
  (θ_run Cert.KernelIdeal.defs _ _).mono (fun _ h => ⟨fun c => (h.1 c).2, h.2⟩)
    (Cert.KernelIdeal.Run.run_main (F := Ideal) m (Cert.KernelIdeal.Run.ok2_ideal m) ρ)

end Cert.Proof
end
-- ==== Proof.RefRun.lean ====
/- The reference's run: its operations in order, and what each leaves, over what the earlier ones left. -/
module

public import proofs.«01_k».proof.Defs
public import proofs.«01_k».proof.Proof.Gen.ReferenceIdeal
public import Idealize.ShloMosaic.Lib.StableHlo.RunHlo
public import Idealize.ShloMosaic.Lib.StableHlo.RunRead

@[expose] public section

set_option maxRecDepth 16384

noncomputable section

namespace Cert.ReferenceIdeal.Run

open Idealize.ShloMosaic Idealize.ShloMosaic.TcCoe
open Idealize.SL.Sem
open Cert.ReferenceIdeal Cert.ReferenceIdeal.Gen
open Idealize.ShloMosaic.StableHlo (after upto launchContents)

set_option maxHeartbeats 4000000 in
/-- The reference's operations, in order. -/
def ops {F : FTy → Type} [FloatOps F] : List (HloOp τ sig (Elt F)) := [
  (StableHlo.reshape main_arg0 main_v0 (rfl : (.f32 : EltTy) = .f32) shapeCasts_S1x2048x768_S2048x768),
  (StableHlo.binary main_v0 main_arg2 main_v1 ((fun l r => Host.dotGeneral dot_S2048x768_S1x1536x768_S2048x1x1536_1_2_0_01_n_n none l r) : (⟨S2048x768, .f32⟩ : BufTy).Contents (Elt F) → (⟨S1x1536x768, .f32⟩ : BufTy).Contents (Elt F) → (⟨S2048x1x1536, .f32⟩ : BufTy).Contents (Elt F))),
  (StableHlo.binary main_v0 main_arg3 main_v2 ((fun l r => Host.dotGeneral dot_S2048x768_S1x1536x768_S2048x1x1536_1_2_0_01_n_n none l r) : (⟨S2048x768, .f32⟩ : BufTy).Contents (Elt F) → (⟨S1x1536x768, .f32⟩ : BufTy).Contents (Elt F) → (⟨S2048x1x1536, .f32⟩ : BufTy).Contents (Elt F))),
  (StableHlo.TRef.unary (.of main_v1 : StableHlo.TRef sig ⟨S2048x1x1536, .f32⟩) main_call0.v0 Host.negf),
  (StableHlo.TRef.unary main_call0.v0 main_call0.v1 Host.exp),
  (StableHlo.TRef.nullary main_call0.cst (constant S_ .f32 0x3F800000#32)),
  (StableHlo.TRef.unary main_call0.cst main_call0.v2 (broadcastInDim S2048x1x1536 ![] bcast_S_S2048x1x1536)),
  (StableHlo.TRef.binary main_call0.v2 main_call0.v1 main_call0.v3 addf),
  (StableHlo.TRef.nullary main_call0.cst_0 (constant S_ .f32 0x3F800000#32)),
  (StableHlo.TRef.unary main_call0.cst_0 main_call0.v4 (broadcastInDim S2048x1x1536 ![] bcast_S_S2048x1x1536)),
  (StableHlo.TRef.binary main_call0.v4 main_call0.v3 main_call0.v5 Host.divf),
  (StableHlo.TRef.binary (.of main_v1 : StableHlo.TRef sig ⟨S2048x1x1536, .f32⟩) main_call0.v5 main_call0.v6 mulf),
  (StableHlo.binary main_v3 main_v2 main_v4 (mulf : (⟨S2048x1x1536, .f32⟩ : BufTy).Contents (Elt F) → (⟨S2048x1x1536, .f32⟩ : BufTy).Contents (Elt F) → (⟨S2048x1x1536, .f32⟩ : BufTy).Contents (Elt F))),
  (StableHlo.binary main_arg4 main_v4 main_v5 ((fun l r => Host.dotGeneral dot_S1x768x1536_S2048x1x1536_S1x768x2048_2_2_1_0_0_1 none l r) : (⟨S1x768x1536, .f32⟩ : BufTy).Contents (Elt F) → (⟨S2048x1x1536, .f32⟩ : BufTy).Contents (Elt F) → (⟨S1x768x2048, .f32⟩ : BufTy).Contents (Elt F))),
  (StableHlo.unary main_v5 main_v6 ((transpose S2048x1x768 [2, 0, 1] · transposes_S1x768x2048_S2048x1x768_2_0_1) : (⟨S1x768x2048, .f32⟩ : BufTy).Contents (Elt F) → (⟨S2048x1x768, .f32⟩ : BufTy).Contents (Elt F))),
  (StableHlo.nullary main_cst (constant S_ .f32 0x00000000#32)),
  (StableHlo.binary main_v6 main_cst main_v7 ((fun x v => Host.reduceAdd x v reducesTo_S2048x1x768_S2048x768_d1 h_S_) : (⟨S2048x1x768, .f32⟩ : BufTy).Contents (Elt F) → (⟨S_, .f32⟩ : BufTy).Contents (Elt F) → (⟨S2048x768, .f32⟩ : BufTy).Contents (Elt F))),
  (StableHlo.nullary main_cst_0 (constant S_ .f32 0x3F800000#32)),
  (StableHlo.unary main_cst_0 main_v8 (broadcastInDim S2048x768 ![] bcast_S_S2048x768 : (⟨S_, .f32⟩ : BufTy).Contents (Elt F) → (⟨S2048x768, .f32⟩ : BufTy).Contents (Elt F))),
  (StableHlo.binary main_v7 main_v8 main_v9 (Host.divf : (⟨S2048x768, .f32⟩ : BufTy).Contents (Elt F) → (⟨S2048x768, .f32⟩ : BufTy).Contents (Elt F) → (⟨S2048x768, .f32⟩ : BufTy).Contents (Elt F))),
  (StableHlo.unary main_arg1 main_v10 ((transpose S768x8 [1, 0] · transposes_S8x768_S768x8_1_0) : (⟨S8x768, .f32⟩ : BufTy).Contents (Elt F) → (⟨S768x8, .f32⟩ : BufTy).Contents (Elt F))),
  (StableHlo.binary main_v0 main_v10 main_v11 ((fun l r => Host.dotGeneral dot_S2048x768_S768x8_S2048x8_1_0_0_1_n_n none l r) : (⟨S2048x768, .f32⟩ : BufTy).Contents (Elt F) → (⟨S768x8, .f32⟩ : BufTy).Contents (Elt F) → (⟨S2048x8, .f32⟩ : BufTy).Contents (Elt F))),
  (StableHlo.nullary main_cst_1 (constant S_ .f32 0xFF800000#32)),
  (StableHlo.binary main_v11 main_cst_1 main_v12 ((fun x v => Host.reduce FloatOps.maximumf x v reducesTo_S2048x8_S2048_d1 h_S_) : (⟨S2048x8, .f32⟩ : BufTy).Contents (Elt F) → (⟨S_, .f32⟩ : BufTy).Contents (Elt F) → (⟨S2048, .f32⟩ : BufTy).Contents (Elt F))),
  (StableHlo.nullary main_cst_2 (constant S_ .f32 0xFF800000#32)),
  (StableHlo.unary main_cst_2 main_v13 (broadcastInDim S2048 ![] bcast_S_S2048 : (⟨S_, .f32⟩ : BufTy).Contents (Elt F) → (⟨S2048, .f32⟩ : BufTy).Contents (Elt F))),
  (StableHlo.binary main_v13 main_v12 main_v14 (maximumf : (⟨S2048, .f32⟩ : BufTy).Contents (Elt F) → (⟨S2048, .f32⟩ : BufTy).Contents (Elt F) → (⟨S2048, .f32⟩ : BufTy).Contents (Elt F))),
  (StableHlo.unary main_v14 main_v15 (broadcastInDim S2048x1 ![0] bcast_S2048_S2048x1_0 : (⟨S2048, .f32⟩ : BufTy).Contents (Elt F) → (⟨S2048x1, .f32⟩ : BufTy).Contents (Elt F))),
  (StableHlo.unary main_v15 main_v16 (broadcastInDim S2048x8 ![0, 1] bcast_S2048x1_S2048x8_0_1 : (⟨S2048x1, .f32⟩ : BufTy).Contents (Elt F) → (⟨S2048x8, .f32⟩ : BufTy).Contents (Elt F))),
  (StableHlo.binary main_v11 main_v16 main_v17 (subf : (⟨S2048x8, .f32⟩ : BufTy).Contents (Elt F) → (⟨S2048x8, .f32⟩ : BufTy).Contents (Elt F) → (⟨S2048x8, .f32⟩ : BufTy).Contents (Elt F))),
  (StableHlo.unary main_v17 main_v18 (Host.exp : (⟨S2048x8, .f32⟩ : BufTy).Contents (Elt F) → (⟨S2048x8, .f32⟩ : BufTy).Contents (Elt F))),
  (StableHlo.nullary main_cst_3 (constant S_ .f32 0x00000000#32)),
  (StableHlo.binary main_v18 main_cst_3 main_v19 ((fun x v => Host.reduceAdd x v reducesTo_S2048x8_S2048_d1 h_S_) : (⟨S2048x8, .f32⟩ : BufTy).Contents (Elt F) → (⟨S_, .f32⟩ : BufTy).Contents (Elt F) → (⟨S2048, .f32⟩ : BufTy).Contents (Elt F))),
  (StableHlo.unary main_v19 main_v20 (broadcastInDim S2048x1 ![0] bcast_S2048_S2048x1_0 : (⟨S2048, .f32⟩ : BufTy).Contents (Elt F) → (⟨S2048x1, .f32⟩ : BufTy).Contents (Elt F))),
  (StableHlo.unary main_v20 main_v21 (broadcastInDim S2048x8 ![0, 1] bcast_S2048x1_S2048x8_0_1 : (⟨S2048x1, .f32⟩ : BufTy).Contents (Elt F) → (⟨S2048x8, .f32⟩ : BufTy).Contents (Elt F))),
  (StableHlo.binary main_v18 main_v21 main_v22 (Host.divf : (⟨S2048x8, .f32⟩ : BufTy).Contents (Elt F) → (⟨S2048x8, .f32⟩ : BufTy).Contents (Elt F) → (⟨S2048x8, .f32⟩ : BufTy).Contents (Elt F))),
  (StableHlo.unary main_v22 main_values ((fun x => (Host.topK S2048x2 1 (FloatOps.cmpfTotal .gt) x sliceFits_S2048x8_S2048x2).1) : (⟨S2048x8, .f32⟩ : BufTy).Contents (Elt F) → (⟨S2048x2, .f32⟩ : BufTy).Contents (Elt F))),
  (StableHlo.unary main_v22 main_indices ((fun x => (Host.topK S2048x2 1 (FloatOps.cmpfTotal .gt) x sliceFits_S2048x8_S2048x2).2) : (⟨S2048x8, .f32⟩ : BufTy).Contents (Elt F) → (⟨S2048x2, .i32⟩ : BufTy).Contents (Elt F))),
  (StableHlo.TRef.nullary main_call1.c (constantI S_ 32 0#32)),
  (StableHlo.TRef.unary main_call1.c main_call1.v0 (broadcastInDim S2048x2 ![] bcast_S_S2048x2)),
  (StableHlo.TRef.binary (.of main_indices : StableHlo.TRef sig ⟨S2048x2, .i32⟩) main_call1.v0 main_call1.v1 (cmpi .slt)),
  (StableHlo.TRef.nullary main_call1.c_0 (constantI S_ 32 8#32)),
  (StableHlo.TRef.unary main_call1.c_0 main_call1.v2 (broadcastInDim S2048x2 ![] bcast_S_S2048x2)),
  (StableHlo.TRef.binary (.of main_indices : StableHlo.TRef sig ⟨S2048x2, .i32⟩) main_call1.v2 main_call1.v3 addi),
  (StableHlo.TRef.ternary main_call1.v1 main_call1.v3 (.of main_indices : StableHlo.TRef sig ⟨S2048x2, .i32⟩) main_call1.v4 select),
  (StableHlo.TRef.reshape main_call1.v4 main_call1.v5 (rfl : (.i32 : EltTy) = .i32) shapeCasts_S2048x2_S2048x2x1),
  (StableHlo.TRef.nullary main_call1.c_1 (constantI S1 32 7#32)),
  (StableHlo.TRef.nullary main_call1.c_2 (constantI S_ 32 0#32)),
  (StableHlo.TRef.unary main_call1.c_2 main_call1.v6 (broadcastInDim S2048x2x1 ![] bcast_S_S2048x2x1)),
  (StableHlo.TRef.binary main_call1.v5 main_call1.v6 main_call1.v7 (cmpi .sge)),
  (StableHlo.TRef.unary main_call1.c_1 main_call1.v8 (broadcastInDim S1x1x1 ![2] bcast_S1_S1x1x1_2)),
  (StableHlo.TRef.unary main_call1.v8 main_call1.v9 (broadcastInDim S2048x2x1 ![0, 1, 2] bcast_S1x1x1_S2048x2x1_0_1_2)),
  (StableHlo.TRef.binary main_call1.v5 main_call1.v9 main_call1.v10 (cmpi .sle)),
  (StableHlo.TRef.binary main_call1.v7 main_call1.v10 main_call1.v11 andi),
  (StableHlo.TRef.nullary main_call1.c_3 (constantI S_ 1 1#1)),
  (StableHlo.TRef.binary main_call1.v11 main_call1.c_3 main_call1.v12 (fun x v => Host.reduce IntOp.andi x v reducesTo_S2048x2x1_S2048x2_d2 h_S_)),
  (StableHlo.TRef.binary (.of main_v22 : StableHlo.TRef sig ⟨S2048x8, .f32⟩) main_call1.v5 main_call1.v13 (fun x i => Host.gather gather_S2048x8_S2048x2x1_S2048x2_n_1_0_0_1_2_11 x i)),
  (StableHlo.TRef.nullary main_call1.cst (constant S_ .f32 0x7FC00000#32)),
  (StableHlo.TRef.unary main_call1.cst main_call1.v14 (broadcastInDim S2048x2 ![] bcast_S_S2048x2)),
  (StableHlo.TRef.ternary main_call1.v12 main_call1.v13 main_call1.v14 main_call1.v15 select),
  (StableHlo.nullary main_cst_4 (constant S_ .f32 0x00000000#32)),
  (StableHlo.binary main_v23 main_cst_4 main_v24 ((fun x v => Host.reduceAdd x v reducesTo_S2048x2_S2048_d1 h_S_) : (⟨S2048x2, .f32⟩ : BufTy).Contents (Elt F) → (⟨S_, .f32⟩ : BufTy).Contents (Elt F) → (⟨S2048, .f32⟩ : BufTy).Contents (Elt F))),
  (StableHlo.unary main_v24 main_v25 (broadcastInDim S2048x1 ![0] bcast_S2048_S2048x1_0 : (⟨S2048, .f32⟩ : BufTy).Contents (Elt F) → (⟨S2048x1, .f32⟩ : BufTy).Contents (Elt F))),
  (StableHlo.nullary main_cst_5 (constant S_ .f32 0x322BCC77#32)),
  (StableHlo.unary main_cst_5 main_v26 (broadcastInDim S2048x1 ![] bcast_S_S2048x1 : (⟨S_, .f32⟩ : BufTy).Contents (Elt F) → (⟨S2048x1, .f32⟩ : BufTy).Contents (Elt F))),
  (StableHlo.binary main_v25 main_v26 main_v27 (addf : (⟨S2048x1, .f32⟩ : BufTy).Contents (Elt F) → (⟨S2048x1, .f32⟩ : BufTy).Contents (Elt F) → (⟨S2048x1, .f32⟩ : BufTy).Contents (Elt F))),
  (StableHlo.unary main_v27 main_v28 (broadcastInDim S2048x2 ![0, 1] bcast_S2048x1_S2048x2_0_1 : (⟨S2048x1, .f32⟩ : BufTy).Contents (Elt F) → (⟨S2048x2, .f32⟩ : BufTy).Contents (Elt F))),
  (StableHlo.binary main_v23 main_v28 main_v29 (Host.divf : (⟨S2048x2, .f32⟩ : BufTy).Contents (Elt F) → (⟨S2048x2, .f32⟩ : BufTy).Contents (Elt F) → (⟨S2048x2, .f32⟩ : BufTy).Contents (Elt F))),
  (StableHlo.nullary main_cst_6 (constant S_ .f32 0x3F800000#32)),
  (StableHlo.unary main_cst_6 main_v30 (broadcastInDim S2048x2 ![] bcast_S_S2048x2 : (⟨S_, .f32⟩ : BufTy).Contents (Elt F) → (⟨S2048x2, .f32⟩ : BufTy).Contents (Elt F))),
  (StableHlo.binary main_v29 main_v30 main_v31 (mulf : (⟨S2048x2, .f32⟩ : BufTy).Contents (Elt F) → (⟨S2048x2, .f32⟩ : BufTy).Contents (Elt F) → (⟨S2048x2, .f32⟩ : BufTy).Contents (Elt F))),
  (StableHlo.nullary main_cst_7 (constant S_ .f32 0x00000000#32)),
  (StableHlo.unary main_cst_7 main_v32 (broadcastInDim S2048x8 ![] bcast_S_S2048x8 : (⟨S_, .f32⟩ : BufTy).Contents (Elt F) → (⟨S2048x8, .f32⟩ : BufTy).Contents (Elt F))),
  (StableHlo.nullary main_v33 (iotaInDim S2048 32 0)),
  (StableHlo.unary main_v33 main_v34 (broadcastInDim S2048x1 ![0] bcast_S2048_S2048x1_0 : (⟨S2048, .i32⟩ : BufTy).Contents (Elt F) → (⟨S2048x1, .i32⟩ : BufTy).Contents (Elt F))),
  (StableHlo.nullary main_c (constantI S_ 32 0#32)),
  (StableHlo.unary main_c main_v35 (broadcastInDim S2048x1 ![] bcast_S_S2048x1 : (⟨S_, .i32⟩ : BufTy).Contents (Elt F) → (⟨S2048x1, .i32⟩ : BufTy).Contents (Elt F))),
  (StableHlo.binary main_v34 main_v35 main_v36 (cmpi .slt : (⟨S2048x1, .i32⟩ : BufTy).Contents (Elt F) → (⟨S2048x1, .i32⟩ : BufTy).Contents (Elt F) → (⟨S2048x1, .i1⟩ : BufTy).Contents (Elt F))),
  (StableHlo.nullary main_c_8 (constantI S_ 32 2048#32)),
  (StableHlo.unary main_c_8 main_v37 (broadcastInDim S2048x1 ![] bcast_S_S2048x1 : (⟨S_, .i32⟩ : BufTy).Contents (Elt F) → (⟨S2048x1, .i32⟩ : BufTy).Contents (Elt F))),
  (StableHlo.binary main_v34 main_v37 main_v38 (addi : (⟨S2048x1, .i32⟩ : BufTy).Contents (Elt F) → (⟨S2048x1, .i32⟩ : BufTy).Contents (Elt F) → (⟨S2048x1, .i32⟩ : BufTy).Contents (Elt F))),
  (StableHlo.ternary main_v36 main_v38 main_v34 main_v39 (select : (⟨S2048x1, .i1⟩ : BufTy).Contents (Elt F) → (⟨S2048x1, .i32⟩ : BufTy).Contents (Elt F) → (⟨S2048x1, .i32⟩ : BufTy).Contents (Elt F) → (⟨S2048x1, .i32⟩ : BufTy).Contents (Elt F))),
  (StableHlo.nullary main_c_9 (constantI S_ 32 0#32)),
  (StableHlo.unary main_c_9 main_v40 (broadcastInDim S2048x2 ![] bcast_S_S2048x2 : (⟨S_, .i32⟩ : BufTy).Contents (Elt F) → (⟨S2048x2, .i32⟩ : BufTy).Contents (Elt F))),
  (StableHlo.binary main_indices main_v40 main_v41 (cmpi .slt : (⟨S2048x2, .i32⟩ : BufTy).Contents (Elt F) → (⟨S2048x2, .i32⟩ : BufTy).Contents (Elt F) → (⟨S2048x2, .i1⟩ : BufTy).Contents (Elt F))),
  (StableHlo.nullary main_c_10 (constantI S_ 32 8#32)),
  (StableHlo.unary main_c_10 main_v42 (broadcastInDim S2048x2 ![] bcast_S_S2048x2 : (⟨S_, .i32⟩ : BufTy).Contents (Elt F) → (⟨S2048x2, .i32⟩ : BufTy).Contents (Elt F))),
  (StableHlo.binary main_indices main_v42 main_v43 (addi : (⟨S2048x2, .i32⟩ : BufTy).Contents (Elt F) → (⟨S2048x2, .i32⟩ : BufTy).Contents (Elt F) → (⟨S2048x2, .i32⟩ : BufTy).Contents (Elt F))),
  (StableHlo.ternary main_v41 main_v43 main_indices main_v44 (select : (⟨S2048x2, .i1⟩ : BufTy).Contents (Elt F) → (⟨S2048x2, .i32⟩ : BufTy).Contents (Elt F) → (⟨S2048x2, .i32⟩ : BufTy).Contents (Elt F) → (⟨S2048x2, .i32⟩ : BufTy).Contents (Elt F))),
  (StableHlo.unary main_v39 main_v45 (broadcastInDim S2048x2 ![0, 1] bcast_S2048x1_S2048x2_0_1 : (⟨S2048x1, .i32⟩ : BufTy).Contents (Elt F) → (⟨S2048x2, .i32⟩ : BufTy).Contents (Elt F))),
  (StableHlo.unary main_v45 main_v46 (broadcastInDim S2048x2x1 ![0, 1] bcast_S2048x2_S2048x2x1_0_1 : (⟨S2048x2, .i32⟩ : BufTy).Contents (Elt F) → (⟨S2048x2x1, .i32⟩ : BufTy).Contents (Elt F))),
  (StableHlo.unary main_v44 main_v47 (broadcastInDim S2048x2x1 ![0, 1] bcast_S2048x2_S2048x2x1_0_1 : (⟨S2048x2, .i32⟩ : BufTy).Contents (Elt F) → (⟨S2048x2x1, .i32⟩ : BufTy).Contents (Elt F))),
  (StableHlo.binary main_v46 main_v47 main_v48 ((fun a b => concatenate S2048x2x2 2 [⟨S2048x2x1, a⟩, ⟨S2048x2x1, b⟩] concatenates_S2048x2x1_S2048x2x1_S2048x2x2_d2) : (⟨S2048x2x1, .i32⟩ : BufTy).Contents (Elt F) → (⟨S2048x2x1, .i32⟩ : BufTy).Contents (Elt F) → (⟨S2048x2x2, .i32⟩ : BufTy).Contents (Elt F))),
  (StableHlo.ternary main_v32 main_v48 main_v31 main_v49 ((fun x i u => Host.scatterAdd scatter_S2048x8_S2048x2x2_S2048x2_n_01_01_2 x i u) : (⟨S2048x8, .f32⟩ : BufTy).Contents (Elt F) → (⟨S2048x2x2, .i32⟩ : BufTy).Contents (Elt F) → (⟨S2048x2, .f32⟩ : BufTy).Contents (Elt F) → (⟨S2048x8, .f32⟩ : BufTy).Contents (Elt F))),
  (StableHlo.binary main_v0 main_arg5 main_v50 ((fun l r => Host.dotGeneral dot_S2048x768_S8x1536x768_S2048x8x1536_1_2_0_01_n_n none l r) : (⟨S2048x768, .f32⟩ : BufTy).Contents (Elt F) → (⟨S8x1536x768, .f32⟩ : BufTy).Contents (Elt F) → (⟨S2048x8x1536, .f32⟩ : BufTy).Contents (Elt F))),
  (StableHlo.binary main_v0 main_arg6 main_v51 ((fun l r => Host.dotGeneral dot_S2048x768_S8x1536x768_S2048x8x1536_1_2_0_01_n_n none l r) : (⟨S2048x768, .f32⟩ : BufTy).Contents (Elt F) → (⟨S8x1536x768, .f32⟩ : BufTy).Contents (Elt F) → (⟨S2048x8x1536, .f32⟩ : BufTy).Contents (Elt F))),
  (StableHlo.TRef.unary (.of main_v50 : StableHlo.TRef sig ⟨S2048x8x1536, .f32⟩) main_call2.v0 Host.negf),
  (StableHlo.TRef.unary main_call2.v0 main_call2.v1 Host.exp),
  (StableHlo.TRef.nullary main_call2.cst (constant S_ .f32 0x3F800000#32)),
  (StableHlo.TRef.unary main_call2.cst main_call2.v2 (broadcastInDim S2048x8x1536 ![] bcast_S_S2048x8x1536)),
  (StableHlo.TRef.binary main_call2.v2 main_call2.v1 main_call2.v3 addf),
  (StableHlo.TRef.nullary main_call2.cst_0 (constant S_ .f32 0x3F800000#32)),
  (StableHlo.TRef.unary main_call2.cst_0 main_call2.v4 (broadcastInDim S2048x8x1536 ![] bcast_S_S2048x8x1536)),
  (StableHlo.TRef.binary main_call2.v4 main_call2.v3 main_call2.v5 Host.divf),
  (StableHlo.TRef.binary (.of main_v50 : StableHlo.TRef sig ⟨S2048x8x1536, .f32⟩) main_call2.v5 main_call2.v6 mulf),
  (StableHlo.binary main_v52 main_v51 main_v53 (mulf : (⟨S2048x8x1536, .f32⟩ : BufTy).Contents (Elt F) → (⟨S2048x8x1536, .f32⟩ : BufTy).Contents (Elt F) → (⟨S2048x8x1536, .f32⟩ : BufTy).Contents (Elt F))),
  (StableHlo.binary main_arg7 main_v53 main_v54 ((fun l r => Host.dotGeneral dot_S8x768x1536_S2048x8x1536_S8x768x2048_2_2_1_0_0_1 none l r) : (⟨S8x768x1536, .f32⟩ : BufTy).Contents (Elt F) → (⟨S2048x8x1536, .f32⟩ : BufTy).Contents (Elt F) → (⟨S8x768x2048, .f32⟩ : BufTy).Contents (Elt F))),
  (StableHlo.unary main_v54 main_v55 ((transpose S2048x8x768 [2, 0, 1] · transposes_S8x768x2048_S2048x8x768_2_0_1) : (⟨S8x768x2048, .f32⟩ : BufTy).Contents (Elt F) → (⟨S2048x8x768, .f32⟩ : BufTy).Contents (Elt F))),
  (StableHlo.binary main_v55 main_v49 main_v56 ((fun l r => Host.dotGeneral dot_S2048x8x768_S2048x8_S2048x768_1_1_2_n_0_0 none l r) : (⟨S2048x8x768, .f32⟩ : BufTy).Contents (Elt F) → (⟨S2048x8, .f32⟩ : BufTy).Contents (Elt F) → (⟨S2048x768, .f32⟩ : BufTy).Contents (Elt F))),
  (StableHlo.binary main_v9 main_v56 main_v57 (addf : (⟨S2048x768, .f32⟩ : BufTy).Contents (Elt F) → (⟨S2048x768, .f32⟩ : BufTy).Contents (Elt F) → (⟨S2048x768, .f32⟩ : BufTy).Contents (Elt F))),
  (StableHlo.reshape main_v57 main_v58 (rfl : (.f32 : EltTy) = .f32) shapeCasts_S2048x768_S1x2048x768)]

/-- What the operations write, in order. -/
def WR : List (Ref sig .tc) := [main_v0, main_v1, main_v2, main_call0_v0, main_call0_v1, main_call0_cst, main_call0_v2, main_call0_v3, main_call0_cst_0, main_call0_v4, main_call0_v5, main_v3, main_v4, main_v5, main_v6, main_cst, main_v7, main_cst_0, main_v8, main_v9, main_v10, main_v11, main_cst_1, main_v12, main_cst_2, main_v13, main_v14, main_v15, main_v16, main_v17, main_v18, main_cst_3, main_v19, main_v20, main_v21, main_v22, main_values, main_indices, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v23, main_cst_4, main_v24, main_v25, main_cst_5, main_v26, main_v27, main_v28, main_v29, main_cst_6, main_v30, main_v31, main_cst_7, main_v32, main_v33, main_v34, main_c, main_v35, main_v36, main_c_8, main_v37, main_v38, main_v39, main_c_9, main_v40, main_v41, main_c_10, main_v42, main_v43, main_v44, main_v45, main_v46, main_v47, main_v48, main_v49, main_v50, main_v51, main_call2_v0, main_call2_v1, main_call2_cst, main_call2_v2, main_call2_v3, main_call2_cst_0, main_call2_v4, main_call2_v5, main_v52, main_v53, main_v54, main_v55, main_v56, main_v57, main_v58]

set_option maxHeartbeats 4000000 in
theorem main_seq (d : Dev nD) : StableHlo.IsSeq (main (F := Ideal) d) (ops (F := Ideal)) := by
  unfold ops
  hlo_seq

set_option maxHeartbeats 4000000 in
theorem ops_writes : (ops (F := Ideal)).map HloOp.writes = WR.map fun w => {Proc.devRef (τ := τ) .tc w} := rfl

/-- The contents of a buffer at the end. -/
abbrev RV (m : (ℓ : Loc nD τ sig) → Buf (Elt Ideal) ℓ) (c : Dev nD) (r : Ref sig .tc) : r.ty.Contents (Elt Ideal) :=
  after (ops (F := Ideal)) (launchContents m c) (Proc.devRef .tc r)

variable (m : (ℓ : Loc nD τ sig) → Buf (Elt Ideal) ℓ) (c : Dev nD)

theorem keep {i : Nat} {r : Ref sig .tc} (hr : r ∉ WR.drop i) :
    upto (ops (F := Ideal)) (launchContents m c) i (Proc.devRef .tc r) = RV m c r := by
  have h : after ((ops (F := Ideal)).take i ++ (ops (F := Ideal)).drop i) (launchContents m c) (Proc.devRef .tc r) = after ((ops (F := Ideal)).drop i) (upto (ops (F := Ideal)) (launchContents m c) i) (Proc.devRef .tc r) := by
    generalize launchContents m c = V
    unfold upto
    generalize (ops (F := Ideal)).drop i = l₂
    generalize (ops (F := Ideal)).take i = l₁
    induction l₁ generalizing V with
    | nil => rfl
    | cons op l ih => exact ih _
  rw [List.take_append_drop] at h
  rw [RV, h]
  exact (StableHlo.after_unwritten (WR.drop i) (by rw [List.map_drop, ops_writes, List.map_drop]) hr _).symm

theorem last {i : Nat} {op : HloOp τ sig (Elt Ideal)} {r : Ref sig .tc} (hseg : (ops (F := Ideal)).drop i = op :: (ops (F := Ideal)).drop (i + 1))
    (hr : r ∉ WR.drop (i + 1)) : RV m c r = op.result (upto (ops (F := Ideal)) (launchContents m c) i) (Proc.devRef .tc r) :=
  StableHlo.after_last_write (WR.drop (i + 1)) hseg (by rw [List.map_drop, ops_writes, List.map_drop]) hr _

theorem rv_nullary (i : Nat) {y : Ref sig .tc} {v : y.ty.Contents (Elt Ideal)} {hy} (hseg : (ops (F := Ideal)).drop i = StableHlo.nullary y v hy :: (ops (F := Ideal)).drop (i + 1))
    (hr : y ∉ WR.drop (i + 1)) : RV m c y = v := by
  rw [last m c hseg hr, StableHlo.nullary_result]

theorem rv_unary (i : Nat) {x y : Ref sig .tc} {f : x.ty.Contents (Elt Ideal) → y.ty.Contents (Elt Ideal)} {hx hy} (hseg : (ops (F := Ideal)).drop i = StableHlo.unary x y f hx hy :: (ops (F := Ideal)).drop (i + 1))
    (hr : y ∉ WR.drop (i + 1)) (hx' : x ∉ WR.drop i) : RV m c y = f (RV m c x) := by
  rw [last m c hseg hr, StableHlo.unary_result, keep m c hx']

theorem rv_binary (i : Nat) {a b y : Ref sig .tc} {f : a.ty.Contents (Elt Ideal) → b.ty.Contents (Elt Ideal) → y.ty.Contents (Elt Ideal)} {ha hb hy} (hseg : (ops (F := Ideal)).drop i = StableHlo.binary a b y f ha hb hy :: (ops (F := Ideal)).drop (i + 1))
    (hr : y ∉ WR.drop (i + 1)) (ha' : a ∉ WR.drop i) (hb' : b ∉ WR.drop i) : RV m c y = f (RV m c a) (RV m c b) := by
  rw [last m c hseg hr, StableHlo.binary_result, keep m c ha', keep m c hb']

theorem rv_ternary (i : Nat) {a b e y : Ref sig .tc} {f : a.ty.Contents (Elt Ideal) → b.ty.Contents (Elt Ideal) → e.ty.Contents (Elt Ideal) → y.ty.Contents (Elt Ideal)} {ha hb he hy} (hseg : (ops (F := Ideal)).drop i = StableHlo.ternary a b e y f ha hb he hy :: (ops (F := Ideal)).drop (i + 1))
    (hr : y ∉ WR.drop (i + 1)) (ha' : a ∉ WR.drop i) (hb' : b ∉ WR.drop i) (he' : e ∉ WR.drop i) : RV m c y = f (RV m c a) (RV m c b) (RV m c e) := by
  rw [last m c hseg hr, StableHlo.ternary_result, keep m c ha', keep m c hb', keep m c he']

theorem rv_reshape (i : Nat) {x y : Ref sig .tc} {he : x.ty.elt = y.ty.elt} {hn : x.ty.shape.ShapeCasts y.ty.shape} {hx hy} (hseg : (ops (F := Ideal)).drop i = StableHlo.reshape x y he hn hx hy :: (ops (F := Ideal)).drop (i + 1))
    (hr : y ∉ WR.drop (i + 1)) (hx' : x ∉ WR.drop i) : RV m c y = fun i => he ▸ shapeCast y.ty.shape (RV m c x) hn i := by
  rw [last m c hseg hr, StableHlo.reshape_result, keep m c hx']

theorem rv_arg {r : Ref sig .tc} (hr : r ∉ WR) : RV m c r = m ((c.tc : Thread nD τ).loc r) :=
  StableHlo.after_unwritten WR ops_writes hr _

/-- The run: every buffer ends at `RV`. -/
theorem run (ρ : Dev nD → PrngReg) : θ_run defs (onTc (τ := τ) (main (F := Ideal))) ⟨m, fun _ => 0, ρ⟩ (fun r =>
    ∀ (c : Dev nD) (b : Ref sig .tc), r.2.mem ((c.tc : Thread nD τ).loc b) = RV m c b) := by
  refine StableHlo.run_hlo defs main (ops := ops) main_seq (by decide) (by decide) ?_ ?_ m ρ
  · unfold ops
    repeat (first | exact List.forall_nil _ | refine (List.forall_cons _ _ _).2 ⟨?_, ?_⟩; · simp)
    trivial
  · rw [← List.forall_iff_forall_mem]
    unfold ops
    repeat (first | exact List.forall_nil _ | refine (List.forall_cons _ _ _).2 ⟨rfl, ?_⟩)
    trivial

end Cert.ReferenceIdeal.Run
end
-- ==== Proof.RFrames.lean ====
/- The reference's frame: it leaves its arguments as they were, and declares no semaphore. -/
module

public import proofs.«01_k».proof.Proof.RefRun
public import Idealize.ShloMosaic.Lib.Claim

@[expose] public section
noncomputable section
namespace Cert.Proof
open Idealize.ShloMosaic Idealize.ShloMosaic.TcCoe Idealize.SL.Sem
open Cert.ReferenceIdeal.Run (rv_arg run)

theorem frame_referenceIdeal : Cert.quiescent_ReferenceIdeal := by
  intro m ρ _
  exact (θ_run Cert.ReferenceIdeal.defs _ _).mono (fun r h => ⟨fun c =>
      ⟨(h c Cert.ReferenceIdeal.main_arg0).trans (rv_arg m c (by decide)), (h c Cert.ReferenceIdeal.main_arg1).trans (rv_arg m c (by decide)),
       (h c Cert.ReferenceIdeal.main_arg2).trans (rv_arg m c (by decide)), (h c Cert.ReferenceIdeal.main_arg3).trans (rv_arg m c (by decide)),
       (h c Cert.ReferenceIdeal.main_arg4).trans (rv_arg m c (by decide)), (h c Cert.ReferenceIdeal.main_arg5).trans (rv_arg m c (by decide)),
       (h c Cert.ReferenceIdeal.main_arg6).trans (rv_arg m c (by decide)), (h c Cert.ReferenceIdeal.main_arg7).trans (rv_arg m c (by decide))⟩,
      Idealize.ShloMosaic.sem_eq_zero_of_no_sems (by decide) r.2⟩)
    (run m ρ)

end Cert.Proof
end
-- ==== Proof.Ffn.lean ====
/- The gated two-layer block, and the kernel's rows of it, over the extended reals. -/
module

public import proofs.«01_k».proof.Proof.Gen.KernelIdeal.Skeleton
public import Idealize.ShloMosaic.Lib.Pointwise

@[expose] public section

set_option maxRecDepth 16384

noncomputable section

namespace Cert.Math

open Idealize.ShloMosaic Idealize.ShloMosaic.TcCoe
open Idealize.SL.Sem
open Cert.KernelIdeal Cert.KernelIdeal.Gen

/-- The gated activation of two pre-activations. -/
def act (a b : EReal) : EReal := a * Ideal.div 1 (1 + Ideal.exp (0 - a)) * b

/-- One row of the gated two-layer block. -/
def ffn (x : Fin 768 → EReal) (wg wu : Fin 1536 → Fin 768 → EReal) (wd : Fin 768 → Fin 1536 → EReal) (h : Fin 768) : EReal :=
  ∑ k, act (∑ d, x d * wg k d) (∑ d, x d * wu k d) * wd h k

theorem shared_at (v0 : FVec Ideal S256x768 .bf16) (v2 v5 : FVec Ideal S1x1536x768 .f32) (v18 : FVec Ideal S1x768x1536 .f32) (r : Fin 256) (h : Fin 768) :
    k1_pay1 (F := Ideal) v0 v2 v5 v18 (Idealize.ShloMosaic.ix2 r h) = ffn (fun d => v0 (Idealize.ShloMosaic.ix2 r d)) (fun k d => v2 (ix3 0 k d)) (fun k d => v5 (ix3 0 k d)) (fun h k => v18 (ix3 0 h k)) h := by
  pointwise [k1_pay1, ffn, act]

theorem routed_at (rw : FVec Ideal S256x1 .f32) (x : FVec Ideal S256x768 .bf16) (wg wu : FVec Ideal S1x1536x768 .f32) (wd : FVec Ideal S1x768x1536 .f32) (r : Fin 256) (h : Fin 768) :
    k2_pay1 (F := Ideal) rw x (k2_pay9 (F := Ideal) wg) wu wd (Idealize.ShloMosaic.ix2 r h) = ffn (fun d => x (Idealize.ShloMosaic.ix2 r d)) (fun k d => wg (ix3 0 k d)) (fun k d => wu (ix3 0 k d)) (fun h k => wd (ix3 0 h k)) h * rw (Idealize.ShloMosaic.ix2 r 0) := by
  pointwise [k2_pay1, k2_pay9, ffn, act]

theorem pick_one (c : BitVec 1) (u v : EReal) : Scalar.select c u v = if c = 1#1 then u else v := rfl

theorem eq_word {a b : ℕ} (ha : a < 2 ^ 32) (hb : b < 2 ^ 32) : IntOp.cmpi .eq (BitVec.ofNat 32 a) (BitVec.ofNat 32 b) = if a = b then 1#1 else 0#1 := by
  by_cases h : a = b
  · subst h; simp [IntOp.cmpi]
  · have h' : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h]
    show BitVec.ofBool (BitVec.ofNat 32 a == BitVec.ofNat 32 b) = 0#1
    rw [beq_eq_false_iff_ne.2 h']; rfl

theorem pick_eq {a b : ℕ} (ha : a < 2 ^ 32) (hb : b < 2 ^ 32) (u v : EReal) :
    Scalar.select (IntOp.cmpi .eq (BitVec.ofNat 32 a) (BitVec.ofNat 32 b)) u v = if a = b then u else v := by
  rw [eq_word ha hb, pick_one]
  by_cases h : a = b <;> simp [h]

theorem pick_or {a a' b : ℕ} (ha : a < 2 ^ 32) (ha' : a' < 2 ^ 32) (hb : b < 2 ^ 32) (u v : EReal) :
    Scalar.select (IntOp.ori (IntOp.cmpi .eq (BitVec.ofNat 32 a) (BitVec.ofNat 32 b)) (IntOp.cmpi .eq (BitVec.ofNat 32 a') (BitVec.ofNat 32 b))) u v
      = if a = b ∨ a' = b then u else v := by
  rw [eq_word ha hb, eq_word ha' hb, pick_one]
  by_cases h : a = b <;> by_cases h' : a' = b <;> simp [h, h', IntOp.ori]

theorem row_word (i r : ℕ) : IntOp.addi (BitVec.ofNat 32 r) (Scalar.muli (BitVec.ofNat 32 i) 256#32) = BitVec.ofNat 32 (256 * i + r) := by
  show BitVec.ofNat 32 r + BitVec.ofNat 32 i * BitVec.ofNat 32 256 = _
  rw [← BitVec.ofNat_mul, ← BitVec.ofNat_add, Nat.add_comm, Nat.mul_comm]

section
variable (p1 p2 : IVec S1x2048 32) (P1 P2 : Fin 2048 → ℕ)
  (h1 : ∀ t, p1 (Idealize.ShloMosaic.ix2 0 t) = BitVec.ofNat 32 (P1 t)) (h2 : ∀ t, p2 (Idealize.ShloMosaic.ix2 0 t) = BitVec.ofNat 32 (P2 t))
  (b1 : ∀ t, P1 t < 6144) (b2 : ∀ t, P2 t < 6144) (i0 : Fin 32) (r : Fin 256) (t0 : Fin 2048)
  (hu : ∀ t, t ≠ t0 → P1 t ≠ 256 * i0 + r ∧ P2 t ≠ 256 * i0 + r)
include h1 h2 b1 b2 hu

/-- A gathered row is the row of the token that sits there. -/
theorem rows_at (hit : P1 t0 = 256 * i0 + r ∨ P2 t0 = 256 * i0 + r) (x : FVec Ideal S2048x768 .bf16) (d : Fin 768) :
    k2_pay8 (F := Ideal) (BitVec.ofNat 32 i0) p1 p2 x (Idealize.ShloMosaic.ix2 r d) = x (Idealize.ShloMosaic.ix2 t0 d) := by
  have hs : 256 * (i0 : ℕ) + r < 2 ^ 32 := by have := i0.isLt; have := r.isLt; omega
  pointwise [k2_pay8, k2_pay5, k2_pay6, k2_pay4]
  refine (Finset.sum_eq_single t0 (fun t _ ht => ?_) fun h => absurd (Finset.mem_univ _) h).trans ?_
  · have b1' := b1 t; have b2' := b2 t
    rw [row_word, h1, h2, pick_or (by omega) (by omega) hs, if_neg (not_or.2 (hu t ht))]
  · have b1' := b1 t0; have b2' := b2 t0
    rw [row_word, h1, h2, pick_or (by omega) (by omega) hs, if_pos hit]

/-- The weight of a gathered row: of the token whose first expert put it there, … -/
theorem wts_at1 (hit : P1 t0 = 256 * i0 + r) (hno : P2 t0 ≠ 256 * i0 + r) (w1 w2 : FVec Ideal S1x2048 .f32) :
    k2_pay7 (F := Ideal) (BitVec.ofNat 32 i0) p1 p2 w1 w2 (Idealize.ShloMosaic.ix2 r 0) = w1 (Idealize.ShloMosaic.ix2 0 t0) := by
  have hs : 256 * (i0 : ℕ) + r < 2 ^ 32 := by have := i0.isLt; have := r.isLt; omega
  pointwise [k2_pay7, k2_pay5, k2_pay6, k2_pay4]
  refine (Finset.sum_eq_single t0 (fun t _ ht => ?_) fun h => absurd (Finset.mem_univ _) h).trans ?_
  · have b1' := b1 t; have b2' := b2 t
    rw [row_word, h1, h2, pick_eq (by omega) hs, pick_eq (by omega) hs, if_neg (hu t ht).1, if_neg (hu t ht).2, add_zero]
  · have b1' := b1 t0; have b2' := b2 t0
    rw [row_word, h1, h2, pick_eq (by omega) hs, pick_eq (by omega) hs, if_pos hit, if_neg hno, add_zero]

/-- … and of the token whose second expert did. -/
theorem wts_at2 (hno : P1 t0 ≠ 256 * i0 + r) (hit : P2 t0 = 256 * i0 + r) (w1 w2 : FVec Ideal S1x2048 .f32) :
    k2_pay7 (F := Ideal) (BitVec.ofNat 32 i0) p1 p2 w1 w2 (Idealize.ShloMosaic.ix2 r 0) = w2 (Idealize.ShloMosaic.ix2 0 t0) := by
  have hs : 256 * (i0 : ℕ) + r < 2 ^ 32 := by have := i0.isLt; have := r.isLt; omega
  pointwise [k2_pay7, k2_pay5, k2_pay6, k2_pay4]
  refine (Finset.sum_eq_single t0 (fun t _ ht => ?_) fun h => absurd (Finset.mem_univ _) h).trans ?_
  · have b1' := b1 t; have b2' := b2 t
    rw [row_word, h1, h2, pick_eq (by omega) hs, pick_eq (by omega) hs, if_neg (hu t ht).1, if_neg (hu t ht).2, add_zero]
  · have b1' := b1 t0; have b2' := b2 t0
    rw [row_word, h1, h2, pick_eq (by omega) hs, pick_eq (by omega) hs, if_neg hno, if_pos hit, zero_add]
end

/-- A combined row: the two gathered rows of the token, and the row added to them. -/
theorem comb_at (p1 p2 : IVec S1x256 32) (s : FVec Ideal S6144x768 .bf16) (y : FVec Ideal S256x768 .f32) (r : Fin 256) (h : Fin 768)
    (A B : Fin 6144) (hA : p1 (Idealize.ShloMosaic.ix2 0 r) = BitVec.ofNat 32 A) (hB : p2 (Idealize.ShloMosaic.ix2 0 r) = BitVec.ofNat 32 B) (hne : A ≠ B) :
    k2_pay3 (F := Ideal) p1 p2 s y (Idealize.ShloMosaic.ix2 r h) = s (Idealize.ShloMosaic.ix2 A h) + s (Idealize.ShloMosaic.ix2 B h) + y (Idealize.ShloMosaic.ix2 r h) := by
  pointwise [k2_pay3]
  refine congrArg (· + y (Idealize.ShloMosaic.ix2 r h)) ?_
  have e : ∀ x : Fin 6144, Scalar.select (IntOp.ori (IntOp.cmpi .eq (p1 (Idealize.ShloMosaic.ix2 0 r)) (BitVec.ofNat 32 x)) (IntOp.cmpi .eq (p2 (Idealize.ShloMosaic.ix2 0 r)) (BitVec.ofNat 32 x))) (s (Idealize.ShloMosaic.ix2 x h) : EReal) 0
      = (if A = x then (s (Idealize.ShloMosaic.ix2 x h) : EReal) else 0) + (if B = x then (s (Idealize.ShloMosaic.ix2 x h) : EReal) else 0) := by
    intro x
    have := A.isLt; have := B.isLt; have := x.isLt
    rw [hA, hB, pick_or (by omega) (by omega) (by omega)]
    by_cases h1 : A = x
    · subst h1; simp [Ne.symm hne]
    · by_cases h2 : B = x
      · subst h2; simp [hne]
      · rw [if_neg h1, if_neg h2, if_neg (not_or.2 ⟨fun e => h1 (Fin.ext e), fun e => h2 (Fin.ext e)⟩), add_zero]
  refine (Finset.sum_congr rfl fun x _ => e x).trans ?_
  rw [Finset.sum_add_distrib, Finset.sum_ite_eq, Finset.sum_ite_eq]
  simp

end Cert.Math
end
-- ==== Proof.Rows.lean ====
/- Where the routed rows go: counting, in the natural numbers. -/
module

public import Idealize.ShloMosaic.Lib.Pointwise

@[expose] public section

set_option maxRecDepth 16384

noncomputable section

namespace Cert.Math

open Idealize.ShloMosaic Idealize.ShloMosaic.TcCoe
open Idealize.SL.Sem

/-! `E q` is the expert of the `q`-th of the 4096 (token, rank) pairs; each expert's pairs get consecutive rows, in order,
    from a multiple of 256 on. -/

variable (E : Fin 4096 → Fin 8)

/-- How many pairs up to `q` go to expert `e`. -/
def upto (e : Fin 8) (q : Fin 4096) : ℕ := (Finset.univ.filter fun q' : Fin 4096 => q' ≤ q ∧ E q' = e).card

/-- How many pairs go to expert `e`. -/
def total (e : Fin 8) : ℕ := (Finset.univ.filter fun q' : Fin 4096 => E q' = e).card

/-- That number, rounded up to a multiple of 256. -/
def padded (e : Fin 8) : ℕ := (total E e + 255) / 256 * 256

/-- Where expert `e`'s rows end. -/
def ends (e : Fin 8) : ℕ := ∑ e' : Fin 8, if e' ≤ e then padded E e' else 0

/-- The row of pair `q`. -/
def row (q : Fin 4096) : ℕ := ends E (E q) - padded E (E q) + upto E (E q) q - 1

theorem total_eq_upto (e : Fin 8) : total E e = upto E e 4095 := by
  unfold total upto
  refine congrArg Finset.card (Finset.filter_congr fun q _ => ⟨fun h => ⟨?_, h⟩, fun h => h.2⟩)
  rw [Fin.le_def]; have := q.isLt; show (q : ℕ) ≤ 4095; omega

theorem upto_le_total (e : Fin 8) (q : Fin 4096) : upto E e q ≤ total E e :=
  Finset.card_le_card fun x hx => by
    rw [Finset.mem_filter] at hx ⊢; exact ⟨hx.1, hx.2.2⟩

theorem upto_pos (q : Fin 4096) : 1 ≤ upto E (E q) q :=
  Finset.card_pos.2 ⟨q, by rw [Finset.mem_filter]; exact ⟨Finset.mem_univ _, le_refl _, rfl⟩⟩

theorem upto_lt {q q' : Fin 4096} (h : q < q') : upto E (E q') q < upto E (E q') q' := by
  refine Finset.card_lt_card ⟨fun x hx => ?_, fun hs => ?_⟩
  · rw [Finset.mem_filter] at hx ⊢; exact ⟨hx.1, hx.2.1.trans h.le, hx.2.2⟩
  · have := hs (Finset.mem_filter.2 ⟨Finset.mem_univ q', le_refl _, rfl⟩)
    exact absurd (Finset.mem_filter.1 this).2.1 (not_le.2 h)

theorem total_le_padded (e : Fin 8) : total E e ≤ padded E e := by unfold padded; omega

theorem padded_le (e : Fin 8) : padded E e ≤ total E e + 255 := by unfold padded; omega

theorem padded_le_ends (e : Fin 8) : padded E e ≤ ends E e := by
  unfold ends
  refine le_trans ?_ (Finset.single_le_sum (f := fun e' : Fin 8 => if e' ≤ e then padded E e' else 0) (fun _ _ => Nat.zero_le _) (Finset.mem_univ e))
  simp

theorem ends_mono {e e' : Fin 8} (h : e ≤ e') : ends E e ≤ ends E e' :=
  Finset.sum_le_sum fun x _ => by
    by_cases hx : x ≤ e
    · rw [if_pos hx, if_pos (hx.trans h)]
    · rw [if_neg hx]; exact Nat.zero_le _

/-- A later expert's rows begin at or after an earlier expert's end. -/
theorem ends_le {e e' : Fin 8} (h : e < e') : ends E e + padded E e' ≤ ends E e' := by
  unfold ends
  have h1 : padded E e' = ∑ x : Fin 8, if x = e' then padded E x else 0 := by simp
  rw [h1, ← Finset.sum_add_distrib]
  refine Finset.sum_le_sum fun x _ => ?_
  by_cases hx : x ≤ e
  · rw [if_pos hx, if_neg (fun e1 => by subst e1; exact absurd h (not_lt.2 hx)), if_pos (hx.trans h.le)]; omega
  · rw [if_neg hx]
    by_cases h2 : x = e'
    · subst h2; simp
    · rw [if_neg h2]; exact Nat.zero_le _

theorem sum_total : ∑ e : Fin 8, total E e = 4096 := by
  unfold total
  rw [← Finset.card_eq_sum_card_fiberwise (s := Finset.univ) (t := Finset.univ) (f := E) (fun _ _ => Finset.mem_univ _)]
  simp

theorem ends_last : ends E 7 = ∑ e : Fin 8, padded E e :=
  Finset.sum_congr rfl fun x _ => if_pos (by rw [Fin.le_def]; have := x.isLt; show (x : ℕ) ≤ 7; omega)

theorem dvd_ends (e : Fin 8) : 256 ∣ ends E e :=
  Finset.dvd_sum fun x _ => by
    by_cases hx : x ≤ e
    · rw [if_pos hx]; exact Dvd.intro_left _ rfl
    · rw [if_neg hx]; exact dvd_zero _

theorem dvd_padded (e : Fin 8) : 256 ∣ padded E e := Dvd.intro_left _ rfl

theorem ends_le_all : ends E 7 ≤ 5888 := by
  have h1 : ends E 7 ≤ 4096 + 8 * 255 := by
    rw [ends_last, ← sum_total E]
    refine (Finset.sum_le_sum fun e _ => padded_le E e).trans ?_
    rw [Finset.sum_add_distrib]; simp
  have h2 := dvd_ends E 7
  omega

theorem ends_le_bound (e : Fin 8) : ends E e ≤ 5888 :=
  (ends_mono E (by rw [Fin.le_def]; have := e.isLt; show (e : ℕ) ≤ 7; omega)).trans (ends_le_all E)

theorem row_lt (q : Fin 4096) : row E q < ends E (E q) := by
  have h1 := upto_pos E q; have h2 := upto_le_total E (E q) q; have h3 := total_le_padded E (E q); have h4 := padded_le_ends E (E q)
  unfold row; omega

theorem le_row (q : Fin 4096) : ends E (E q) - padded E (E q) ≤ row E q := by
  have h1 := upto_pos E q
  unfold row; omega

theorem row_lt_all (q : Fin 4096) : row E q < ends E 7 :=
  (row_lt E q).trans_le (ends_mono E (by rw [Fin.le_def]; have := (E q).isLt; show (E q : ℕ) ≤ 7; omega))

theorem row_ne {q q' : Fin 4096} (h : q < q') : row E q ≠ row E q' := by
  intro he
  rcases lt_trichotomy (E q) (E q') with hl | hl | hl
  · have h1 := row_lt E q; have h2 := le_row E q'; have h3 := ends_le E hl; omega
  · have h1 := upto_lt E h; have h2 := upto_pos E q
    unfold row at he; rw [hl] at he h2
    omega
  · have h1 := row_lt E q'; have h2 := le_row E q; have h3 := ends_le E hl; omega

theorem row_inj : Function.Injective (row E) := fun q q' h => by
  rcases lt_trichotomy q q' with hl | hl | hl
  · exact absurd h (row_ne E hl)
  · exact hl
  · exact absurd h.symm (row_ne E hl)

/-- The expert of a row's block is read off the ends: it is the number of ends at or before the block. -/
theorem block_expert (q : Fin 4096) : (Finset.univ.filter fun e : Fin 8 => ends E e ≤ 256 * (row E q / 256)).card = (E q : ℕ) := by
  have h : (Finset.univ.filter fun e : Fin 8 => ends E e ≤ 256 * (row E q / 256)) = Finset.univ.filter fun e : Fin 8 => e < E q := by
    refine Finset.filter_congr fun e _ => ⟨fun he => ?_, fun he => ?_⟩
    · by_contra hn
      have h1 := ends_mono E (not_lt.1 hn); have h2 := row_lt E q; omega
    · have h1 := ends_le E he; have h2 := le_row E q
      have h3 := dvd_ends E e
      omega
  rw [h, show (Finset.univ.filter fun e : Fin 8 => e < E q) = Finset.Iio (E q) from by ext e; simp]
  exact Fin.card_Iio _

theorem block_lt (q : Fin 4096) : row E q / 256 < ends E 7 / 256 := by
  have h1 := row_lt_all E q; have h2 := dvd_ends E 7; omega

end Cert.Math
end
-- ==== Proof.Counts.lean ====
/- The router's running counts, over the extended reals: natural numbers. -/
module

public import proofs.«01_k».proof.Proof.TableOk
public import proofs.«01_k».proof.Proof.Rows
public import proofs.«01_k».proof.Proof.Ffn

@[expose] public section

set_option maxRecDepth 16384

noncomputable section

namespace Cert.Math

open Idealize.ShloMosaic Idealize.ShloMosaic.TcCoe
open Idealize.SL.Sem
open Cert.KernelIdeal Cert.KernelIdeal.Gen
open Cert.KernelIdeal.Run (sitofp_bit sitofp_nat fptosi_nat)

/-- A natural number among the extended reals. -/
abbrev nat (n : ℕ) : EReal := ((n : ℝ) : EReal)

theorem nat_add (a b : ℕ) : nat a + nat b = nat (a + b) := by
  unfold nat; rw [← EReal.coe_add]; push_cast; rfl
theorem nat_mul (a b : ℕ) : nat a * nat b = nat (a * b) := by
  unfold nat; rw [← EReal.coe_mul]; push_cast; rfl
theorem nat_zero : nat 0 = 0 := by simp [nat]
theorem nat_one : nat 1 = 1 := by simp [nat]
theorem nat_sub {a b : ℕ} (h : b ≤ a) : nat a - nat b = nat (a - b) := by
  unfold nat; rw [← EReal.coe_sub, Nat.cast_sub h]
theorem nat_sum {ι : Type} (s : Finset ι) (f : ι → ℕ) : ∑ i ∈ s, nat (f i) = nat (∑ i ∈ s, f i) := by
  classical
  induction s using Finset.induction_on with
  | empty => simp
  | insert a s ha ih => rw [Finset.sum_insert ha, Finset.sum_insert ha, ih, nat_add]
theorem nat_le {a b : ℕ} : nat a ≤ nat b ↔ a ≤ b := by
  unfold nat; rw [EReal.coe_le_coe_iff]; exact Nat.cast_le
theorem nat_ite (p : Prop) [Decidable p] : (if p then (1 : EReal) else 0) = nat (if p then 1 else 0) := by
  by_cases h : p <;> simp [h]

theorem toInt_word (n : ℕ) (h : n < 2 ^ 31) : (BitVec.ofNat 32 n).toInt = n := Cert.KernelIdeal.Run.ofNat_toInt n h

theorem sle_bit {a b : ℕ} (ha : a < 2 ^ 31) (hb : b < 2 ^ 31) :
    FloatOps.sitofp (F := Ideal) .f32 (BitVec.setWidth 32 (IntOp.cmpi .sle (BitVec.ofNat 32 a) (BitVec.ofNat 32 b))) = nat (if a ≤ b then 1 else 0) := by
  have e : IntOp.cmpi .sle (BitVec.ofNat 32 a) (BitVec.ofNat 32 b) = BitVec.ofBool (decide (a ≤ b)) := by
    show BitVec.ofBool (BitVec.sle _ _) = _
    rw [BitVec.sle_eq_decide, toInt_word a ha, toInt_word b hb]
    congr 1; simp
  rw [e, sitofp_bit, ← nat_ite]; simp

theorem slt_bit {a b : ℕ} (ha : a < 2 ^ 31) (hb : b < 2 ^ 31) :
    FloatOps.sitofp (F := Ideal) .f32 (BitVec.setWidth 32 (IntOp.cmpi .slt (BitVec.ofNat 32 a) (BitVec.ofNat 32 b))) = nat (if a < b then 1 else 0) := by
  have e : IntOp.cmpi .slt (BitVec.ofNat 32 a) (BitVec.ofNat 32 b) = BitVec.ofBool (decide (a < b)) := by
    show BitVec.ofBool (BitVec.slt _ _) = _
    rw [BitVec.slt_eq_decide, toInt_word a ha, toInt_word b hb]
    congr 1; simp
  rw [e, sitofp_bit, ← nat_ite]; simp

section
variable (E : Fin 4096 → Fin 8)

theorem fst_lt (t : Fin 2048) : (t : ℕ) < 4096 := by have := t.isLt; omega
theorem snd_lt (t : Fin 2048) : 2048 + (t : ℕ) < 4096 := by have := t.isLt; omega

/-- Whether pair `q` goes to expert `e`, as a number. -/
def goes (e : Fin 8) (q : Fin 4096) : ℕ := if E q = e then 1 else 0

/-- Counting up to `q` in 32 chunks of 128: within `q`'s chunk, plus the chunks before it. -/
theorem upto_chunks (e : Fin 8) (q : Fin 4096) :
    (∑ x : Fin 128, goes E e ⟨(q : ℕ) / 128 * 128 + x, by have := q.isLt; have := x.isLt; omega⟩ * (if (x : ℕ) ≤ (q : ℕ) % 128 then 1 else 0))
      + ∑ j : Fin 32, (∑ x : Fin 128, goes E e ⟨(j : ℕ) * 128 + x, by have := j.isLt; have := x.isLt; omega⟩ * (if (x : ℕ) ≤ 127 then 1 else 0)) * (if (j : ℕ) < (q : ℕ) / 128 then 1 else 0)
      = upto E e q := by
  have hq := q.isLt
  have h0 : upto E e q = ∑ q' : Fin 4096, if q' ≤ q ∧ E q' = e then 1 else 0 := by
    unfold upto; rw [Finset.card_filter]
  rw [h0, Fin.sum_univ_tiles 32 128 rfl]
  have hJ : (q : ℕ) / 128 < 32 := by omega
  have h1 : ∑ x : Fin 128, goes E e ⟨(q : ℕ) / 128 * 128 + x, by have := x.isLt; omega⟩ * (if (x : ℕ) ≤ (q : ℕ) % 128 then 1 else 0)
      = ∑ j : Fin 32, if (⟨(q : ℕ) / 128, hJ⟩ : Fin 32) = j then (∑ x : Fin 128, goes E e ⟨(j : ℕ) * 128 + x, by have := j.isLt; have := x.isLt; omega⟩ * (if (x : ℕ) ≤ (q : ℕ) % 128 then 1 else 0)) else 0 := by
    rw [Finset.sum_ite_eq, if_pos (Finset.mem_univ _)]
  rw [h1, ← Finset.sum_add_distrib]
  refine Finset.sum_congr rfl fun j _ => ?_
  have hj := j.isLt
  rcases lt_trichotomy (j : ℕ) ((q : ℕ) / 128) with hl | hl | hl
  · rw [if_neg (fun h => by have := congrArg Fin.val h; simp at this; omega), if_pos hl, zero_add, mul_one]
    refine Finset.sum_congr rfl fun x _ => ?_
    have hx := x.isLt
    unfold goes
    rw [if_pos (show (x : ℕ) ≤ 127 by omega), mul_one]
    refine if_congr ⟨fun h => ⟨?_, h⟩, fun h => h.2⟩ rfl rfl
    rw [Fin.le_def]; show (j : ℕ) * 128 + x ≤ q; omega
  · rw [if_pos (Fin.ext hl.symm), if_neg (by omega), mul_zero, add_zero]
    refine Finset.sum_congr rfl fun x _ => ?_
    have hx := x.isLt
    unfold goes
    by_cases hle : (x : ℕ) ≤ (q : ℕ) % 128
    · rw [if_pos hle, mul_one]
      refine if_congr ⟨fun h => ⟨?_, h⟩, fun h => h.2⟩ rfl rfl
      rw [Fin.le_def]; show (j : ℕ) * 128 + x ≤ q; omega
    · rw [if_neg hle, mul_zero, if_neg]
      rintro ⟨h, -⟩
      rw [Fin.le_def] at h; have h' : (j : ℕ) * 128 + x ≤ q := h; omega
  · rw [if_neg (fun h => by have := congrArg Fin.val h; simp at this; omega), if_neg (by omega), mul_zero, add_zero]
    refine (Finset.sum_eq_zero fun x _ => if_neg ?_).symm
    rintro ⟨h, -⟩
    rw [Fin.le_def] at h; have h' : (j : ℕ) * 128 + x ≤ q := h; omega

variable (o1 o2 : FVec Ideal S8x2048 .f32)
  (H1 : ∀ (e : Fin 8) (t : Fin 2048), o1 (Idealize.ShloMosaic.ix2 e t) = nat (goes E e ⟨t, fst_lt t⟩))
  (H2 : ∀ (e : Fin 8) (t : Fin 2048), o2 (Idealize.ShloMosaic.ix2 e t) = nat (goes E e ⟨2048 + t, snd_lt t⟩))
include H1 H2

theorem joined_at (e : Fin 8) (n : ℕ) (hn : n < 4096) (h' : ¬ n < 2048 → n - 2048 < 2048) :
    (if h : n < 2048 then (o1 (Idealize.ShloMosaic.ix2 e ⟨n, h⟩) : EReal) else o2 (Idealize.ShloMosaic.ix2 e ⟨n - 2048, h' h⟩)) = nat (goes E e ⟨n, hn⟩) := by
  by_cases h : n < 2048
  · rw [dif_pos h, H1]
  · rw [dif_neg h, H2]
    refine congrArg (fun q => nat (goes E e q)) (Fin.ext ?_)
    show 2048 + (n - 2048) = n
    omega

theorem csum_at (e : Fin 8) (q : Fin 4096) : k0_pay14 (F := Ideal) o1 o2 (Idealize.ShloMosaic.ix2 e q) = nat (upto E e q) := by
  have hq := q.isLt
  rw [← upto_chunks E e q]
  pointwise [k0_pay14]
  rw [← nat_add, ← nat_sum, ← nat_sum]
  refine congrArg₂ (· + ·) ?_ ?_
  · refine Finset.sum_congr rfl fun x _ => ?_
    have hx := x.isLt
    rw [← nat_mul, sle_bit (by omega) (by omega)]
    refine congrArg (· * _) ?_
    refine (joined_at E o1 o2 H1 H2 e _ (by omega) (fun h => by omega)).trans ?_
    refine congrArg (fun q => nat (goes E e q)) (Fin.ext ?_)
    show ((e : ℕ) * 32 + (q : ℕ) / 128) % 32 * 128 + (x : ℕ) = (q : ℕ) / 128 * 128 + x
    omega
  · refine Finset.sum_congr rfl fun j _ => ?_
    have hj := j.isLt
    rw [← nat_mul, slt_bit (by omega) (by omega), ← nat_sum]
    refine congrArg (· * _) ?_
    refine Finset.sum_congr rfl fun x _ => ?_
    have hx := x.isLt
    rw [← nat_mul]
    refine congrArg₂ (· * ·) ?_ (sle_bit (by omega) (by omega))
    refine (joined_at E o1 o2 H1 H2 e _ (by omega) (fun h => by omega)).trans ?_
    refine congrArg (fun q => nat (goes E e q)) (Fin.ext ?_)
    show ((e : ℕ) * 32 + (j : ℕ)) % 32 * 128 + (x : ℕ) = (j : ℕ) * 128 + x
    omega

theorem padded_at (e : Fin 8) : k0_pay15 (F := Ideal) o1 o2 (Idealize.ShloMosaic.ix2 e 0) = nat (padded E e) := by
  pointwise [k0_pay15]
  have h := csum_at E o1 o2 H1 H2 e 4095
  refine (congrArg (fun v : EReal => Ideal.liftRound Int.floor ((v + Ideal.ofBits .f32 1132396544#32) * Ideal.ofBits .f32 998244352#32) * Ideal.ofBits .f32 1132462080#32) h).trans ?_
  rw [Cert.Num.c255, Cert.Num.c256, Cert.Num.cInv256, ← total_eq_upto]
  unfold nat
  rw [← EReal.coe_add, ← EReal.coe_mul]
  show ((⌊((total E e : ℝ) + 255) * (1 / 256)⌋ : ℝ) : EReal) * ((256 : ℝ) : EReal) = _
  have hf : ⌊((total E e : ℝ) + 255) * (1 / 256)⌋ = (((total E e + 255) / 256 : ℕ) : ℤ) := by
    rw [Int.floor_eq_iff]
    have h1 : (total E e + 255) / 256 * 256 ≤ total E e + 255 := Nat.div_mul_le_self _ _
    have h2 : total E e + 255 < ((total E e + 255) / 256 + 1) * 256 := by omega
    have h1' : (((total E e + 255) / 256 * 256 : ℕ) : ℝ) ≤ ((total E e + 255 : ℕ) : ℝ) := Nat.cast_le.2 h1
    have h2' : ((total E e + 255 : ℕ) : ℝ) < ((((total E e + 255) / 256 + 1) * 256 : ℕ) : ℝ) := Nat.cast_lt.2 h2
    generalize (total E e + 255) / 256 = k at *
    push_cast at *
    constructor <;> linarith
  rw [hf, ← EReal.coe_mul]
  unfold padded
  push_cast
  rfl

theorem ends_at (e : Fin 8) : k0_pay16 (F := Ideal) o1 o2 (Idealize.ShloMosaic.ix2 e 0) = nat (ends E e) := by
  pointwise [k0_pay16]
  unfold ends
  rw [← nat_sum]
  refine Finset.sum_congr rfl fun x _ => ?_
  have hx := x.isLt; have he := e.isLt
  rw [sle_bit (by omega) (by omega)]
  refine (congrArg (_ * ·) (padded_at E o1 o2 H1 H2 x)).trans ?_
  rw [nat_mul]
  by_cases h : x ≤ e
  · rw [if_pos h, if_pos (Fin.le_def.1 h), one_mul]
  · rw [if_neg h, if_neg (fun h' => h (Fin.le_def.2 h')), zero_mul]

/-- What a pair's row is computed as. -/
theorem row_sum (q : Fin 4096) :
    (∑ x : Fin 8, nat (goes E x q) * (nat (ends E x) - nat (padded E x) + nat (upto E x q) - 1)) = nat (row E q) := by
  refine (Finset.sum_eq_single (E q) (fun x _ hx => ?_) fun h => absurd (Finset.mem_univ _) h).trans ?_
  · unfold goes; rw [if_neg (Ne.symm hx), nat_zero, zero_mul]
  · unfold goes; rw [if_pos rfl, nat_one, one_mul, nat_sub (padded_le_ends E _), nat_add, ← nat_one, nat_sub]
    · rfl
    · have := upto_pos E q; omega

theorem pos1_at (t : Fin 2048) : k0_pay1 (F := Ideal) (k0_pay18 o1 o2) (Idealize.ShloMosaic.ix2 0 t) = BitVec.ofNat 32 (row E ⟨t, fst_lt t⟩) := by
  have hb : row E ⟨t, fst_lt t⟩ < 2 ^ 31 := by have h1 := row_lt_all E ⟨t, fst_lt t⟩; have h2 := ends_le_all E; omega
  rw [← fptosi_nat _ hb]
  pointwise [k0_pay1, k0_pay18, k0_pay17]
  refine congrArg (Ideal.fptosi 32) (Eq.trans ?_ (row_sum E o1 o2 H1 H2 _))
  refine Finset.sum_congr rfl fun x _ => ?_
  exact congrArg₂ (· * ·) (H1 x t) (congrArg (· - 1) (congrArg₂ (· + ·) (congrArg₂ (· - ·) (ends_at E o1 o2 H1 H2 x) (padded_at E o1 o2 H1 H2 x)) (csum_at E o1 o2 H1 H2 x _)))

theorem pos2_at (t : Fin 2048) : k0_pay2 (F := Ideal) o2 (k0_pay14 o1 o2) (k0_pay17 o1 o2) (Idealize.ShloMosaic.ix2 0 t) = BitVec.ofNat 32 (row E ⟨2048 + t, snd_lt t⟩) := by
  have hb : row E ⟨2048 + t, snd_lt t⟩ < 2 ^ 31 := by have h1 := row_lt_all E ⟨2048 + t, snd_lt t⟩; have h2 := ends_le_all E; omega
  rw [← fptosi_nat _ hb]
  pointwise [k0_pay2, k0_pay17]
  refine congrArg (Ideal.fptosi 32) (Eq.trans ?_ (row_sum E o1 o2 H1 H2 _))
  refine Finset.sum_congr rfl fun x _ => ?_
  exact congrArg₂ (· * ·) (H2 x t) (congrArg (· - 1) (congrArg₂ (· + ·) (congrArg₂ (· - ·) (ends_at E o1 o2 H1 H2 x) (padded_at E o1 o2 H1 H2 x)) (csum_at E o1 o2 H1 H2 x _)))

/-- The table at a block that holds a pair's row: the pair's expert. -/
theorem table_at (q : Fin 4096) (b : Fin 25) (hb : (b : ℕ) = row E q / 256) :
    k0_pay3 (F := Ideal) (k0_pay16 o1 o2) (Idealize.ShloMosaic.ix2 0 b) = BitVec.ofNat 32 (E q) := by
  have h1 := row_lt_all E q; have h2 := ends_le_all E
  have hk : b.val < 24 := by omega
  rw [Cert.KernelIdeal.Run.bexpIdeal _ b hk]
  refine congrArg (BitVec.ofNat 32) ?_
  have h3 : (Finset.univ.filter fun e : Fin 8 => k0_pay16 (F := Ideal) o1 o2 (Idealize.ShloMosaic.ix2 e 0) ≤ (((256 * b.val : ℕ) : ℝ) : EReal)).card = (E q : ℕ) := by
    rw [← block_expert E q]
    refine congrArg Finset.card (Finset.filter_congr fun e _ => ?_)
    rw [hb]
    exact (Iff.of_eq (congrArg (· ≤ nat (256 * (row E q / 256))) (ends_at E o1 o2 H1 H2 e))).trans nat_le
  rw [h3]
  have := (E q).isLt
  omega

/-- The table's last entry: how many blocks of rows are in use. -/
theorem table_last : k0_pay3 (F := Ideal) (k0_pay16 o1 o2) (Idealize.ShloMosaic.ix2 0 24) = BitVec.ofNat 32 (ends E 7 / 256) := by
  have h2 := ends_le_all E
  rw [← fptosi_nat (ends E 7 / 256) (by omega)]
  pointwise [k0_pay3]
  have h24 : FloatOps.sitofp (F := Ideal) .f32 24#32 = (((24 : ℕ) : ℝ) : EReal) := sitofp_nat 24 (by omega)
  rw [h24, Cert.Num.c24, if_pos (by norm_num), Cert.Num.cInv256]
  refine congrArg (Ideal.fptosi 32) ?_
  refine (congrArg (· * ((1 / 256 : ℝ) : EReal)) (ends_at E o1 o2 H1 H2 7)).trans ?_
  obtain ⟨k, hk⟩ := dvd_ends E 7
  rw [hk, Nat.mul_div_cancel_left k (by norm_num)]
  unfold nat
  rw [← EReal.coe_mul]
  refine congrArg (fun r : ℝ => (r : EReal)) ?_
  push_cast
  ring
end

end Cert.Math
end
-- ==== Proof.Top.lean ====
/- The two best of eight scores: by maximum and least index, and by a stable descending sort. -/
module

public import proofs.«01_k».proof.Proof.Counts
public import Idealize.ShloMosaic.Lib.SortFacts

@[expose] public section

set_option maxRecDepth 16384

noncomputable section

namespace Cert.Math

open Idealize.ShloMosaic Idealize.ShloMosaic.TcCoe
open Idealize.SL.Sem

/-- The greatest of eight scores. -/
def top (s : Fin 8 → EReal) : EReal := Finset.univ.fold max ⊥ s

theorem le_top (s : Fin 8 → EReal) (e : Fin 8) : s e ≤ top s := Finset.le_fold_max (s e) |>.2 (Or.inr ⟨e, Finset.mem_univ _, le_refl _⟩)

theorem top_le (s : Fin 8 → EReal) (v : EReal) (h : ∀ e, s e ≤ v) : top s ≤ v := (Finset.fold_max_le v).2 ⟨bot_le, fun e _ => h e⟩

theorem exists_top (s : Fin 8 → EReal) : ∃ e, s e = top s := by
  obtain ⟨e, he⟩ := Finite.exists_max s
  exact ⟨e, le_antisymm (le_top s e) (top_le s _ he)⟩

theorem leads_nonempty (s : Fin 8 → EReal) : (Finset.univ.filter fun e : Fin 8 => top s ≤ s e).Nonempty := by
  obtain ⟨e, he⟩ := exists_top s
  exact ⟨e, Finset.mem_filter.2 ⟨Finset.mem_univ _, he.ge⟩⟩

/-- The least index where the greatest score is. -/
def lead (s : Fin 8 → EReal) : Fin 8 := (Finset.univ.filter fun e : Fin 8 => top s ≤ s e).min' (leads_nonempty s)

theorem lead_top (s : Fin 8 → EReal) : s (lead s) = top s :=
  le_antisymm (le_top s _) (Finset.mem_filter.1 (Finset.min'_mem _ (leads_nonempty s))).2

theorem lead_le (s : Fin 8 → EReal) (e : Fin 8) (h : top s ≤ s e) : lead s ≤ e :=
  Finset.min'_le _ e (Finset.mem_filter.2 ⟨Finset.mem_univ e, h⟩)

/-- The one index whose score beats every other, an earlier index winning a tie. -/
theorem lead_eq (s : Fin 8 → EReal) (i : Fin 8) (h : ∀ a, a ≠ i → s a < s i ∨ (s a ≤ s i ∧ i < a)) : lead s = i := by
  by_contra hn
  have hi : top s ≤ s i := top_le s _ fun e => by
    by_cases he : e = i
    · rw [he]
    · rcases h e he with h' | h'
      · exact h'.le
      · exact h'.1
  have h1 := lead_le s i hi
  rcases h (lead s) hn with h' | h'
  · exact absurd h' (not_lt.2 ((le_top s i).trans (lead_top s).ge))
  · exact absurd h'.2 (not_lt.2 h1)

/-- The least index as the kernel finds it: the least of the indices kept, 8 standing for those that are not. -/
theorem fold_lead (s : Fin 8 → EReal) :
    Finset.univ.fold min ⊤ (fun e : Fin 8 => if top s ≤ s e then nat e else nat 8) = nat (lead s) := by
  refine le_antisymm ((Finset.fold_min_le _).2 (Or.inr ⟨lead s, Finset.mem_univ _, ?_⟩)) ((Finset.le_fold_min _).2 ⟨le_top', fun e _ => ?_⟩)
  · rw [if_pos (lead_top s).ge]
  · by_cases h : top s ≤ s e
    · rw [if_pos h, nat_le]; exact lead_le s e h
    · rw [if_neg h, nat_le]; exact (lead s).isLt.le
where le_top' {v : EReal} : v ≤ ⊤ := _root_.le_top

/-- The scores with the best one lowered by two. -/
def masked (s : Fin 8 → EReal) (e : Fin 8) : EReal := s e - ((2 : ℝ) : EReal) * nat (if e = lead s then 1 else 0)

theorem masked_lead (s : Fin 8 → EReal) : masked s (lead s) = s (lead s) - ((2 : ℝ) : EReal) := by
  unfold masked; rw [if_pos rfl, nat_one, mul_one]
theorem masked_ne (s : Fin 8 → EReal) {e : Fin 8} (h : e ≠ lead s) : masked s e = s e := by
  unfold masked; rw [if_neg h, nat_zero, mul_zero, sub_zero]

/-! ## A stable descending sort -/

section
variable (s : Fin 8 → EReal)

/-- `b` comes before `c`: a greater score, or the same and an earlier index. -/
def ahead (b c : Fin 8) : Prop := s c < s b ∨ (s c ≤ s b ∧ b < c)

theorem pairwise_insert (a : Fin 8) (l : List (Fin 8)) (hl : l.Pairwise (ahead s)) (ha : ∀ b ∈ l, a < b) :
    (insertBefore (fun x y => decide (s y < s x)) a l).Pairwise (ahead s) := by
  induction l with
  | nil => exact List.pairwise_singleton _ _
  | cons b l ih =>
    rw [List.pairwise_cons] at hl
    unfold insertBefore
    split
    · rename_i h
      refine List.pairwise_cons.mpr ⟨fun c hc => ?_, ih hl.2 fun x hx => ha x (List.mem_cons_of_mem _ hx)⟩
      rcases List.mem_cons.mp ((perm_insertBefore _ a l).mem_iff.mp hc) with rfl | hc'
      · exact Or.inl (of_decide_eq_true h)
      · exact hl.1 c hc'
    · rename_i h
      have hba : s b ≤ s a := not_lt.1 fun hh => h (decide_eq_true hh)
      refine List.pairwise_cons.mpr ⟨fun c hc => ?_, List.pairwise_cons.mpr hl⟩
      rcases List.mem_cons.mp hc with rfl | hc'
      · exact Or.inr ⟨hba, ha _ (List.mem_cons_self ..)⟩
      · refine Or.inr ⟨?_, ha _ (List.mem_cons_of_mem _ hc')⟩
        rcases hl.1 c hc' with h1 | h1
        · exact h1.le.trans hba
        · exact h1.1.trans hba

theorem pairwise_sort (l : List (Fin 8)) (h : l.Pairwise (· < ·)) : (stableSort (fun x y => decide (s y < s x)) l).Pairwise (ahead s) := by
  induction l with
  | nil => exact List.Pairwise.nil
  | cons a l ih =>
    rw [List.pairwise_cons] at h
    unfold stableSort
    exact pairwise_insert s a _ (ih h.2) fun b hb => h.1 b ((perm_stableSort _ l).mem_iff.mp hb)

/-- The index at each place of the descending order. -/
def place (k : Fin 8) : Fin 8 := sortedFrom (fun x y => decide (s y < s x)) k

theorem place_ahead {i j : Fin 8} (h : i < j) : ahead s (place s i) (place s j) := by
  have hp : ∀ a b : Fin (sortPositions 8 fun x y => decide (s y < s x)).length, a < b →
      ahead s ((sortPositions 8 fun x y => decide (s y < s x)).get a) ((sortPositions 8 fun x y => decide (s y < s x)).get b) :=
    List.pairwise_iff_get.mp (pairwise_sort s (List.finRange 8) (List.pairwise_lt_finRange 8))
  unfold place sortedFrom
  exact hp _ _ (by simp only [Fin.lt_def, Fin.val_cast]; exact h)

theorem place_surj : Function.Surjective (place s) := sortedFrom_surjective _
theorem place_inj : Function.Injective (place s) := sortedFrom_injective _

theorem place_zero : lead s = place s 0 := by
  refine lead_eq s _ fun a ha => ?_
  obtain ⟨j, rfl⟩ := place_surj s a
  have hj : (0 : Fin 8) < j := Fin.pos_iff_ne_zero.2 fun h => ha (congrArg _ h)
  exact place_ahead s hj

/-- With scores between 0 and 1 the second place is the best of the lowered scores. -/
theorem place_one (h0 : ∀ e, 0 ≤ s e) (h1 : ∀ e, s e ≤ 1) : lead (masked s) = place s 1 := by
  have hne : place s 1 ≠ lead s := by rw [place_zero]; exact fun h => absurd (place_inj s h) (by decide)
  have hneg : s (lead s) - ((2 : ℝ) : EReal) < 0 := by
    refine (EReal.sub_le_sub (h1 _) (le_refl _)).trans_lt ?_
    have : (1 : EReal) - ((2 : ℝ) : EReal) = ((-1 : ℝ) : EReal) := by
      rw [← EReal.coe_one, ← EReal.coe_sub]; norm_num
    rw [this]
    exact_mod_cast (by norm_num : (-1 : ℝ) < 0)
  refine lead_eq _ _ fun a ha => ?_
  rw [masked_ne s hne]
  by_cases hl : a = lead s
  · left; rw [hl, masked_lead]; exact hneg.trans_le (h0 _)
  · rw [masked_ne s hl]
    obtain ⟨j, rfl⟩ := place_surj s a
    have h2 : j ≠ 1 := fun h => ha (congrArg _ h)
    have h3 : j ≠ 0 := fun h => hl (by rw [h, place_zero])
    have hj : (1 : Fin 8) < j := by
      rw [Fin.lt_def]; have h2' : (j : ℕ) ≠ 1 := fun h => h2 (Fin.ext h); have h3' : (j : ℕ) ≠ 0 := fun h => h3 (Fin.ext h)
      show 1 < (j : ℕ); omega
    exact place_ahead s hj

theorem masked_top (h0 : ∀ e, 0 ≤ s e) (h1 : ∀ e, s e ≤ 1) : top (masked s) = s (place s 1) := by
  have hne : place s 1 ≠ lead s := by rw [place_zero]; exact fun h => absurd (place_inj s h) (by decide)
  rw [← lead_top, place_one s h0 h1, masked_ne s hne]
end

/-! ## The softmax of eight logits -/

/-- One of the softmax's values. -/
def soft (l : Fin 8 → EReal) (e : Fin 8) : EReal := Ideal.div (Ideal.exp (l e - top l)) (∑ e', Ideal.exp (l e' - top l))

/-- The scores lie between 0 and 1, except that with no finite greatest logit they are all the least value. -/
theorem soft_cases (l : Fin 8 → EReal) : (∀ e, 0 ≤ soft l e ∧ soft l e ≤ 1) ∨ ∀ e, soft l e = ⊥ := by
  by_cases hr : ∃ r : ℝ, top l = (r : EReal)
  · left
    obtain ⟨r, hr⟩ := hr
    have hp : ∀ e, ∃ p : ℝ, 0 ≤ p ∧ Ideal.exp (l e - top l) = (p : EReal) := by
      intro e
      have hle := le_top l e
      rw [hr] at hle ⊢
      induction hle' : l e using EReal.rec with
      | bot => exact ⟨0, le_refl _, by rw [EReal.bot_sub]; rfl⟩
      | coe x => exact ⟨Real.exp (x - r), (Real.exp_pos _).le, by rw [← EReal.coe_sub]; rfl⟩
      | top => rw [hle'] at hle; exact absurd hle (not_le.2 (EReal.coe_lt_top r))
    choose p hp0 hp using hp
    obtain ⟨e0, he0⟩ := exists_top l
    have h1 : p e0 = 1 := by
      have := hp e0
      rw [he0, hr, ← EReal.coe_sub, sub_self] at this
      have h2 : Ideal.exp ((0 : ℝ) : EReal) = ((Real.exp 0 : ℝ) : EReal) := rfl
      rw [h2, Real.exp_zero] at this
      exact (EReal.coe_eq_coe_iff.1 this).symm
    have hS : ∑ e', Ideal.exp (l e' - top l) = ((∑ e', p e' : ℝ) : EReal) := by
      rw [Finset.sum_congr rfl fun e' _ => hp e']
      induction (Finset.univ : Finset (Fin 8)) using Finset.induction_on with
      | empty => simp
      | insert a s ha ih => rw [Finset.sum_insert ha, Finset.sum_insert ha, EReal.coe_add, ih]
    have hle : ∀ e, p e ≤ ∑ e', p e' := fun e => Finset.single_le_sum (f := p) (fun x _ => hp0 x) (Finset.mem_univ e)
    have hpos : 0 < ∑ e', p e' := lt_of_lt_of_le (by rw [h1]; norm_num) (hle e0)
    intro e
    have hv : soft l e = ((p e / ∑ e', p e' : ℝ) : EReal) := by
      unfold soft Ideal.div
      rw [hS, hp e, if_neg (by exact_mod_cast hpos.ne'), ← EReal.coe_inv, ← EReal.coe_mul]
      rfl
    rw [hv]
    exact ⟨by exact_mod_cast div_nonneg (hp0 e) hpos.le, by exact_mod_cast (div_le_one hpos).2 (hle e)⟩
  · right
    have hz : ∀ e, Ideal.exp (l e - top l) = 0 := by
      intro e
      have hb : l e - top l = ⊥ := by
        induction ht : top l using EReal.rec with
        | bot =>
          have : l e = ⊥ := le_bot_iff.1 (ht ▸ le_top l e)
          rw [this, EReal.bot_sub]
        | coe x => exact absurd ⟨x, ht⟩ hr
        | top => exact EReal.sub_top _
      rw [hb]; rfl
    intro e
    unfold soft
    simp [hz, Ideal.div]

/-! ## The two experts of a token and their weights -/

/-- The best and the second best expert of a token's scores. -/
def best (s : Fin 8 → EReal) : Fin 8 := lead s
def next (s : Fin 8 → EReal) : Fin 8 := lead (masked s)

/-- Their weights: their shares of the two scores, with a small number added to the sum. -/
def bestW (ε : ℝ) (s : Fin 8 → EReal) : EReal := Ideal.div (top s) (top s + top (masked s) + (ε : EReal))
def nextW (ε : ℝ) (s : Fin 8 → EReal) : EReal := Ideal.div (top (masked s)) (top s + top (masked s) + (ε : EReal))

/-- The weights by place in the descending order. -/
def placeW (ε : ℝ) (s : Fin 8 → EReal) (k : Fin 2) : EReal :=
  Ideal.div (s (place s ⟨k, by have := k.isLt; omega⟩)) ((∑ k : Fin 2, s (place s ⟨k, by have := k.isLt; omega⟩)) + (ε : EReal))

/-- The two tables of weights agree. -/
theorem weights_eq (ε : ℝ) (s : Fin 8 → EReal) (hs : (∀ e, 0 ≤ s e ∧ s e ≤ 1) ∨ ∀ e, s e = ⊥) (e : Fin 8) :
    (∑ k : Fin 2, if place s ⟨k, by have := k.isLt; omega⟩ = e then placeW ε s k else 0)
      = (if best s = e then bestW ε s else 0) + (if next s = e then nextW ε s else 0) := by
  rcases hs with hs | hs
  · have h0 := fun e => (hs e).1
    have h1 := fun e => (hs e).2
    rw [Fin.sum_univ_two]
    unfold placeW best next bestW nextW
    rw [masked_top s h0 h1, place_one s h0 h1, ← lead_top s, place_zero s, Fin.sum_univ_two]
    rfl
  · have ht : top s = ⊥ := le_bot_iff.1 (top_le s _ fun e => (hs e).le)
    have hm : ∀ e, masked s e = ⊥ := fun e => by unfold masked; rw [hs e, EReal.bot_sub]
    have ht' : top (masked s) = ⊥ := le_bot_iff.1 (top_le _ _ fun e => (hm e).le)
    have hd : Ideal.div ⊥ (⊥ : EReal) = 0 := by simp [Ideal.div]
    unfold placeW bestW nextW
    simp only [hs, ht, ht', Fin.sum_univ_two, EReal.bot_add, hd]
    simp

end Cert.Math
end
-- ==== Proof.RouterAt.lean ====
/- The router's results over the extended reals. -/
module

public import proofs.«01_k».proof.Proof.Top
public import proofs.«01_k».proof.Proof.Vals

@[expose] public section

set_option maxRecDepth 16384

noncomputable section

namespace Cert.Math

open Idealize.ShloMosaic Idealize.ShloMosaic.TcCoe
open Idealize.SL.Sem
open Cert.KernelIdeal Cert.KernelIdeal.Gen
open Cert.KernelIdeal.Run (sitofp_bit sitofp_nat fptosi_nat oh1 oh2 pos1 pos2 wt1 wt2 bexp)

/-- The small number added to the sum of the two scores. -/
def eps : ℝ := Classical.choose Cert.Num.cEps
theorem eps_eq : Ideal.ofBits .f32 0x322BCC77#32 = (eps : EReal) := (Classical.choose_spec Cert.Num.cEps).2

variable (x : FVec Ideal S2048x768 .f32) (g : FVec Ideal S8x768 .f32)

/-- A token's logits and scores. -/
def logit (t : Fin 2048) (e : Fin 8) : EReal := ∑ d : Fin 768, x (Idealize.ShloMosaic.ix2 t d) * g (Idealize.ShloMosaic.ix2 e d)
def score (t : Fin 2048) : Fin 8 → EReal := soft (logit x g t)

theorem score_at (e : Fin 8) (t : Fin 2048) : k0_pay4 (F := Ideal) x g (Idealize.ShloMosaic.ix2 e t) = score x g t e := by
  pointwise [k0_pay4]
  rw [Cert.Num.cNegInf]
  have h : ∀ e : Fin 8, (∑ d : Fin 768, g (Idealize.ShloMosaic.ix2 e d) * x (Idealize.ShloMosaic.ix2 t d) : EReal) = logit x g t e := fun e => Finset.sum_congr rfl fun d _ => mul_comm _ _
  simp only [h]
  rfl

theorem top_at (t : Fin 2048) : k0_pay6 (F := Ideal) x g (Idealize.ShloMosaic.ix2 0 t) = top (score x g t) := by
  pointwise [k0_pay6]
  rw [Cert.Num.cNegInf]
  simp only [score_at]
  rfl

theorem small (e : Fin 8) : FloatOps.sitofp (F := Ideal) .f32 (BitVec.ofNat 32 (e : ℕ)) = nat e := sitofp_nat e (by have := e.isLt; omega)
theorem eight : Ideal.ofBits .f32 0x41000000#32 = nat 8 := by rw [Cert.Num.c8]; unfold nat; norm_num

theorem nat_inj {a b : ℕ} : nat a = nat b ↔ a = b := by
  constructor
  · intro h; exact le_antisymm (nat_le.1 h.le) (nat_le.1 h.ge)
  · intro h; rw [h]

/-- The bit that says whether an index is the least that reaches the top. -/
theorem lead_bit (s : Fin 8 → EReal) (e : Fin 8) :
    FloatOps.sitofp (F := Ideal) .f32 (BitVec.setWidth 32 (BitVec.ofBool (decide (nat e = Finset.univ.fold min ⊤ (fun e : Fin 8 => if top s ≤ s e then nat e else nat 8)))))
      = nat (if lead s = e then 1 else 0) := by
  rw [sitofp_bit, fold_lead]
  by_cases h : lead s = e
  · rw [if_pos h, nat_one, if_pos]; rw [h]; exact decide_eq_true rfl
  · rw [if_neg h, nat_zero, if_neg]
    rw [decide_eq_true_iff, nat_inj]
    exact fun h' => h (Fin.ext h'.symm)

theorem oh1_at (e : Fin 8) (t : Fin 2048) : oh1 (F := Ideal) x g (Idealize.ShloMosaic.ix2 e t) = nat (if best (score x g t) = e then 1 else 0) := by
  refine Eq.trans ?_ (lead_bit (score x g t) e)
  pointwise [oh1, k0_pay7, k0_pay5]
  simp only [small, eight, Cert.Num.cInf, score_at, top_at]

theorem masked_at (e : Fin 8) (t : Fin 2048) : k0_pay8 (F := Ideal) x g (Idealize.ShloMosaic.ix2 e t) = masked (score x g t) e := by
  pointwise [k0_pay8]
  rw [score_at, Cert.Num.c2, show k0_pay7 (F := Ideal) x g (Idealize.ShloMosaic.ix2 e t) = _ from oh1_at x g e t]
  unfold masked best
  simp only [eq_comm]

theorem top2_at (t : Fin 2048) : k0_pay9 (F := Ideal) x g (Idealize.ShloMosaic.ix2 0 t) = top (masked (score x g t)) := by
  pointwise [k0_pay9]
  rw [Cert.Num.cNegInf]
  simp only [masked_at]
  rfl

theorem oh2_at (e : Fin 8) (t : Fin 2048) : oh2 (F := Ideal) x g (Idealize.ShloMosaic.ix2 e t) = nat (if next (score x g t) = e then 1 else 0) := by
  refine Eq.trans ?_ (lead_bit (masked (score x g t)) e)
  pointwise [oh2, k0_pay10, k0_pay5]
  simp only [small, eight, Cert.Num.cInf, masked_at, top2_at]

theorem wt1_at (t : Fin 2048) : wt1 (F := Ideal) x g (Idealize.ShloMosaic.ix2 0 t) = bestW eps (score x g t) := by
  pointwise [wt1, k0_pay12, k0_pay11]
  rw [top_at, top2_at, eps_eq]
  rfl

theorem wt2_at (t : Fin 2048) : wt2 (F := Ideal) x g (Idealize.ShloMosaic.ix2 0 t) = nextW eps (score x g t) := by
  pointwise [wt2, k0_pay13, k0_pay11]
  rw [top_at, top2_at, eps_eq]
  rfl

/-- The expert of each of the 4096 choices: first every token's best, then every token's second. -/
def pairE (q : Fin 4096) : Fin 8 :=
  if h : (q : ℕ) < 2048 then best (score x g ⟨q, h⟩) else next (score x g ⟨q - 2048, by have := q.isLt; omega⟩)

theorem pairE_fst (t : Fin 2048) (h : (t : ℕ) < 4096) : pairE x g ⟨t, h⟩ = best (score x g t) := dif_pos t.isLt
theorem pairE_snd (t : Fin 2048) (h : 2048 + (t : ℕ) < 4096) : pairE x g ⟨2048 + t, h⟩ = next (score x g t) := by
  unfold pairE
  rw [dif_neg (by show ¬ 2048 + (t : ℕ) < 2048; omega)]
  exact congrArg (fun t => next (score x g t)) (Fin.ext (by show 2048 + (t : ℕ) - 2048 = t; omega))

theorem oh1_goes (e : Fin 8) (t : Fin 2048) : oh1 (F := Ideal) x g (Idealize.ShloMosaic.ix2 e t) = nat (goes (pairE x g) e ⟨t, fst_lt t⟩) := by
  rw [oh1_at]; unfold goes; rw [pairE_fst]
theorem oh2_goes (e : Fin 8) (t : Fin 2048) : oh2 (F := Ideal) x g (Idealize.ShloMosaic.ix2 e t) = nat (goes (pairE x g) e ⟨2048 + t, snd_lt t⟩) := by
  rw [oh2_at]; unfold goes; rw [pairE_snd]

theorem p1_at (t : Fin 2048) : pos1 (F := Ideal) x g (Idealize.ShloMosaic.ix2 0 t) = BitVec.ofNat 32 (row (pairE x g) ⟨t, fst_lt t⟩) :=
  pos1_at _ _ _ (oh1_goes x g) (oh2_goes x g) t
theorem p2_at (t : Fin 2048) : pos2 (F := Ideal) x g (Idealize.ShloMosaic.ix2 0 t) = BitVec.ofNat 32 (row (pairE x g) ⟨2048 + t, snd_lt t⟩) :=
  pos2_at _ _ _ (oh1_goes x g) (oh2_goes x g) t
theorem be_at (q : Fin 4096) (b : Fin 25) (hb : (b : ℕ) = row (pairE x g) q / 256) : bexp (F := Ideal) x g (Idealize.ShloMosaic.ix2 0 b) = BitVec.ofNat 32 (pairE x g q) :=
  table_at _ _ _ (oh1_goes x g) (oh2_goes x g) q b hb
theorem be_last : bexp (F := Ideal) x g (Idealize.ShloMosaic.ix2 0 24) = BitVec.ofNat 32 (ends (pairE x g) 7 / 256) :=
  table_last _ _ _ (oh1_goes x g) (oh2_goes x g)

end Cert.Math
end
-- ==== Proof.SharedAt.lean ====
/- The shared expert's region over the extended reals. -/
module

public import proofs.«01_k».proof.Proof.Ffn
public import proofs.«01_k».proof.Proof.Vals

@[expose] public section

set_option maxRecDepth 16384

noncomputable section

namespace Cert.KernelIdeal.Run

open Idealize.ShloMosaic Idealize.ShloMosaic.TcCoe
open Idealize.SL.Sem
open Cert.Math Cert.KernelIdeal.Gen
variable (m : (ℓ : Loc nD τ sig) → Buf (Elt Ideal) ℓ)

/-- The shared expert's rows. -/
def SHV (c : Dev nD) : FVec Ideal S2048x768 .f32 := fun j =>
  ffn (fun d => X m c (Idealize.ShloMosaic.ix2 (j 0) d)) (fun k d => (m ((c : Thread nD τ).loc main_arg2) : FVec Ideal S1x1536x768 .f32) (ix3 0 k d))
    (fun k d => (m ((c : Thread nD τ).loc main_arg3) : FVec Ideal S1x1536x768 .f32) (ix3 0 k d))
    (fun h k => (m ((c : Thread nD τ).loc main_arg4) : FVec Ideal S1x768x1536 .f32) (ix3 0 h k)) (j 1)

theorem idx1 : ∀ t : Fin cfg1.N, win1_0.index t = ![t.val, 0] ∧ win1_1.index t = ![0, 0, 0] ∧ win1_2.index t = ![0, 0, 0] ∧ win1_3.index t = ![0, 0, 0] ∧ win1_4.index t = ![t.val, 0] :=
  (by decide +kernel : ∀ t : Fin grid1.N, _)

theorem W3_arg (c : Dev nD) (r : Ref sig .tc) (h0 : r ∉ hostOps0_W) (h1 : r ∉ hostOps1_W)
    (g0 : ∀ w, Pipeline.arrRef spec0 w = r → (spec0 w).isOut = false) : W3 m c r = W0 m c r :=
  (W3_of m c r h1).trans <| (W2_of m c r g0).trans (W1_of m c r h0)

theorem iblk1_1 (c : Dev nD) (t : Fin cfg1.N) : Shared.iblk (W3 m) c 1 t = (m ((c : Thread nD τ).loc main_arg2) : FVec Ideal S1x1536x768 .f32) := by
  refine Eq.trans ?_ (W3_arg m c main_arg2 (by decide) (by decide) (by decide)); blk_ext! [Shared.iblk, idx1 t]
theorem iblk1_2 (c : Dev nD) (t : Fin cfg1.N) : Shared.iblk (W3 m) c 2 t = (m ((c : Thread nD τ).loc main_arg3) : FVec Ideal S1x1536x768 .f32) := by
  refine Eq.trans ?_ (W3_arg m c main_arg3 (by decide) (by decide) (by decide)); blk_ext! [Shared.iblk, idx1 t]
theorem iblk1_3 (c : Dev nD) (t : Fin cfg1.N) : Shared.iblk (W3 m) c 3 t = (m ((c : Thread nD τ).loc main_arg4) : FVec Ideal S1x768x1536 .f32) := by
  refine Eq.trans ?_ (W3_arg m c main_arg4 (by decide) (by decide) (by decide)); blk_ext! [Shared.iblk, idx1 t]

theorem out1_4_eq (x0 : Vec Ideal S256x768 .bf16) (x1 x2 : Vec Ideal S1x1536x768 .f32) (x3 : Vec Ideal S1x768x1536 .f32) :
    Shared.out1_4 x0 x1 x2 x3 = k1_pay1 x0 x1 x2 x3 := by
  unfold Shared.out1_4 Shared.r1_0 Shared.r1_1 Shared.r1_2
  rw [View.canon_unit_zero (by funext a; fin_cases a <;> rfl), View.ld_unit_zero (by funext a; fin_cases a <;> rfl), View.ld_unit_zero (by funext a; fin_cases a <;> rfl), View.ld_unit_zero (by funext a; fin_cases a <;> rfl), View.ld_unit_zero (by funext a; fin_cases a <;> rfl)]

theorem XB_at (c : Dev nD) (i : S2048x768.Idx) : (XB m c i : EReal) = X m c i := rfl

theorem iblk1_0_at (c : Dev nD) (t : Fin cfg1.N) (r : Fin 256) (d : Fin 768) (j : Fin 2048) (hj : (j : ℕ) = t.val * 256 + r) :
    (Shared.iblk (W3 m) c 0 t (Idealize.ShloMosaic.ix2 r d) : EReal) = X m c (Idealize.ShloMosaic.ix2 j d) := by
  refine Eq.trans ?_ (XB_at m c _)
  rw [← W3_v2]
  blk_ext! [Shared.iblk, idx1 t]

theorem W4_v3 (c : Dev nD) : W4 m c main_v3 = SHV m c := by
  refine (Pipeline.afterRegion_arr (Shared.dat (W3 m) c) (W3 m c) (launch1 (F := Ideal)).win.arr_inj 4).trans ?_
  refine (Shared.dat (W3 m) c).arrAt_eq_of_covers 4 _ (by decide +kernel) fun t _ y => ?_
  blk_simp
  rw [Shared.after1_4, iblk1_1, iblk1_2, iblk1_3, out1_4_eq]
  obtain ⟨j, hj⟩ : ∃ j, j = (win1_4.blk t).view.emb y := ⟨_, rfl⟩
  have h0 : (j 0 : ℕ) = t.val * 256 + (y 0 : ℕ) := by rw [hj]; blk_simp [idx1 t]
  have h1 : (j 1 : ℕ) = (y 1 : ℕ) := by rw [hj]; blk_simp [idx1 t]
  rw [← hj]
  have hy : y = Idealize.ShloMosaic.ix2 (y 0 : Fin 256) (y 1 : Fin 768) := by funext a; fin_cases a <;> rfl
  have e1 : (j 1 : Fin 768) = (y 1 : Fin 768) := Fin.ext h1
  refine (congrArg _ hy).trans ((shared_at _ _ _ _ _ _).trans ?_)
  unfold SHV
  rw [e1]
  refine congrArg (fun f => ffn f _ _ _ _) (funext fun d => iblk1_0_at m c t _ d _ h0)

end Cert.KernelIdeal.Run
end
-- ==== Proof.Blocks.lean ====
/- The blocks the routed region reads, over the extended reals. -/
module

public import proofs.«01_k».proof.Proof.Ffn
public import proofs.«01_k».proof.Proof.TableOk
public import proofs.«01_k».proof.Proof.RouterAt
public import proofs.«01_k».proof.Proof.SharedAt

@[expose] public section

set_option maxRecDepth 16384

noncomputable section

namespace Cert.KernelIdeal.Run

open Idealize.ShloMosaic Idealize.ShloMosaic.TcCoe
open Idealize.SL.Sem
open Cert.Math Cert.KernelIdeal.Gen
variable (m : (ℓ : Loc nD τ sig) → Buf (Elt Ideal) ℓ)

/-- The table the routed region holds. -/
abbrev AD : (pcfg2 (F := Ideal)).Adm := adm m (ok2_ideal m) 2

section
variable (a : (pcfg2 (F := Ideal)).Adm)
theorem ix_0 (t : Fin (cfg2 a).N) : ((cfg2 a).win 0).index t = ![0, 0] := (by decide +kernel : ∀ t : Fin grid2.N, cc2_transform_0 (grid2.coords t) = ![0, 0]) t
theorem ix_1 (t : Fin (cfg2 a).N) : ((cfg2 a).win 1).index t = ![0, 0] := (by decide +kernel : ∀ t : Fin grid2.N, cc2_transform_1 (grid2.coords t) = ![0, 0]) t
theorem ix_2 (t : Fin (cfg2 a).N) : ((cfg2 a).win 2).index t = ![0, 0] := (by decide +kernel : ∀ t : Fin grid2.N, cc2_transform_2 (grid2.coords t) = ![0, 0]) t
theorem ix_3 (t : Fin (cfg2 a).N) : ((cfg2 a).win 3).index t = ![0, 0] := (by decide +kernel : ∀ t : Fin grid2.N, cc2_transform_3 (grid2.coords t) = ![0, 0]) t
theorem ix_4 (t : Fin (cfg2 a).N) : ((cfg2 a).win 4).index t = ![0, 0] := (by decide +kernel : ∀ t : Fin grid2.N, cc2_transform_4 (grid2.coords t) = ![0, 0]) t
theorem ix_8 (t : Fin (cfg2 a).N) : ((cfg2 a).win 8).index t = ![t.val - 24, 0] := (by decide +kernel : ∀ t : Fin grid2.N, cc2_transform_8 (grid2.coords t) = ![t.val - 24, 0]) t
theorem ix_9 (t : Fin (cfg2 a).N) : ((cfg2 a).win 9).index t = ![t.val - 24, 0] := (by decide +kernel : ∀ t : Fin grid2.N, cc2_transform_9 (grid2.coords t) = ![t.val - 24, 0]) t
theorem ix_5 (t : Fin (cfg2 a).N) : ((cfg2 a).win 5).index t = ![draw ((a.1 0 : IVec S25 32) (ix1 (tabPos (grid2.coords t)))), 0, 0] := transform5 a.1 (grid2.coords t)
theorem ix_6 (t : Fin (cfg2 a).N) : ((cfg2 a).win 6).index t = ![draw ((a.1 0 : IVec S25 32) (ix1 (tabPos (grid2.coords t)))), 0, 0] := transform6 a.1 (grid2.coords t)
theorem ix_7 (t : Fin (cfg2 a).N) : ((cfg2 a).win 7).index t = ![draw ((a.1 0 : IVec S25 32) (ix1 (tabPos (grid2.coords t)))), 0, 0] := transform7 a.1 (grid2.coords t)
end

theorem dev_eq (c : Dev nD) : c = 0 := by apply Subsingleton.elim

theorem blk_0 (c : Dev nD) (t : Fin (cfg2 (AD m)).N) : Mlp.iblk (W5 m) (AD m) c 0 t = XB m c := by
  rw [← W5_v5]; blk_ext! [Mlp.iblk, ix_0 (AD m) t]
theorem blk_1 (c : Dev nD) (t : Fin (cfg2 (AD m)).N) : Mlp.iblk (W5 m) (AD m) c 1 t = pos1 (X m c) (GW m c) := by
  rw [← W5_v1_0]; blk_ext! [Mlp.iblk, ix_1 (AD m) t]
theorem blk_2 (c : Dev nD) (t : Fin (cfg2 (AD m)).N) : Mlp.iblk (W5 m) (AD m) c 2 t = pos2 (X m c) (GW m c) := by
  rw [← W5_v1_1]; blk_ext! [Mlp.iblk, ix_2 (AD m) t]
theorem blk_3 (c : Dev nD) (t : Fin (cfg2 (AD m)).N) : Mlp.iblk (W5 m) (AD m) c 3 t = wt1 (X m c) (GW m c) := by
  rw [← W5_v1_2]; blk_ext! [Mlp.iblk, ix_3 (AD m) t]
theorem blk_4 (c : Dev nD) (t : Fin (cfg2 (AD m)).N) : Mlp.iblk (W5 m) (AD m) c 4 t = wt2 (X m c) (GW m c) := by
  rw [← W5_v1_3]; blk_ext! [Mlp.iblk, ix_4 (AD m) t]

theorem draw_nat (e : ℕ) (h : e ≤ 7) : draw (BitVec.ofNat 32 e) = e := by
  interval_cases e <;> decide

/-- The table's entry for block `t`. -/
theorem entry (c : Dev nD) (t : Fin grid2.N) (ht : t.val < 24) (e : Fin 8)
    (he : bexp (F := Ideal) (X m c) (GW m c) (Idealize.ShloMosaic.ix2 0 ⟨t.val, by omega⟩) = BitVec.ofNat 32 e) :
    draw (((AD m).1 0 : IVec S25 32) (ix1 (tabPos (grid2.coords t)))) = e := by
  rw [dev_eq c] at he
  rw [show ((AD m).1 0 : IVec S25 32) = tabs m 0 from rfl, tabs_eq, show tabPos (grid2.coords t) = ⟨t.val, by omega⟩ from Fin.ext ?_, he, draw_nat _ (by have := e.isLt; omega)]
  show min (grid2.coords t 0).val 23 = t.val
  rw [Mlp.coords_val]; omega

theorem W5_arg5 (c : Dev nD) : W5 m c main_arg5 = W0 m c main_arg5 := W5_arg m c main_arg5 (by decide) (by decide) (by decide) (by decide) (by decide)
theorem W5_arg6 (c : Dev nD) : W5 m c main_arg6 = W0 m c main_arg6 := W5_arg m c main_arg6 (by decide) (by decide) (by decide) (by decide) (by decide)
theorem W5_arg7 (c : Dev nD) : W5 m c main_arg7 = W0 m c main_arg7 := W5_arg m c main_arg7 (by decide) (by decide) (by decide) (by decide) (by decide)

section
variable (c : Dev nD) (t : Fin (cfg2 (AD m)).N) (e : Fin 8) (he : draw (((AD m).1 0 : IVec S25 32) (ix1 (tabPos (grid2.coords t)))) = e)
include he
theorem blk_5 (k : Fin 1536) (d : Fin 768) : (Mlp.iblk (W5 m) (AD m) c 5 t (ix3 0 k d) : EReal) = (m ((c : Thread nD τ).loc main_arg5) : FVec Ideal S8x1536x768 .f32) (ix3 e k d) := by
  refine Eq.trans ?_ (congrFun (W5_arg5 m c) _)
  have hi := ix_5 (AD m) t
  rw [he] at hi
  blk_ext! [Mlp.iblk, hi]
theorem blk_6 (k : Fin 1536) (d : Fin 768) : (Mlp.iblk (W5 m) (AD m) c 6 t (ix3 0 k d) : EReal) = (m ((c : Thread nD τ).loc main_arg6) : FVec Ideal S8x1536x768 .f32) (ix3 e k d) := by
  refine Eq.trans ?_ (congrFun (W5_arg6 m c) _)
  have hi := ix_6 (AD m) t
  rw [he] at hi
  blk_ext! [Mlp.iblk, hi]
theorem blk_7 (h : Fin 768) (k : Fin 1536) : (Mlp.iblk (W5 m) (AD m) c 7 t (ix3 0 h k) : EReal) = (m ((c : Thread nD τ).loc main_arg7) : FVec Ideal S8x768x1536 .f32) (ix3 e h k) := by
  refine Eq.trans ?_ (congrFun (W5_arg7 m c) _)
  have hi := ix_7 (AD m) t
  rw [he] at hi
  blk_ext! [Mlp.iblk, hi]
end

theorem W5_v3 (c : Dev nD) : W5 m c main_v3 = SHV m c := (W5_of m c main_v3 (by decide)).trans (W4_v3 m c)

theorem blk_8 (c : Dev nD) (t : Fin (cfg2 (AD m)).N) (r : Fin 256) (h : Fin 768) (j : Fin 2048) (hj : (j : ℕ) = (t.val - 24) * 256 + r) :
    (Mlp.iblk (W5 m) (AD m) c 8 t (Idealize.ShloMosaic.ix2 r h) : EReal) = SHV m c (Idealize.ShloMosaic.ix2 j h) := by
  rw [← W5_v3]
  blk_ext! [Mlp.iblk, ix_8 (AD m) t]

end Cert.KernelIdeal.Run
end
-- ==== Proof.Routed.lean ====
/- The routed region's results over the extended reals. -/
module

public import proofs.«01_k».proof.Proof.Blocks
public import proofs.«01_k».proof.Proof.Rows
public import Idealize.ShloMosaic.Lib.Pipeline.Covers

@[expose] public section

set_option maxRecDepth 16384

noncomputable section

namespace Cert.KernelIdeal.Run

open Idealize.ShloMosaic Idealize.ShloMosaic.TcCoe
open Idealize.SL.Sem
open Cert.Math Cert.KernelIdeal.Gen
variable (m : (ℓ : Loc nD τ sig) → Buf (Elt Ideal) ℓ)

/-- The expert chosen by each of the 4096 choices. -/
abbrev EE (c : Dev nD) : Fin 4096 → Fin 8 := pairE (X m c) (GW m c)

/-- One expert's result for token `t`. -/
def expertV (c : Dev nD) (e : Fin 8) (t : Fin 2048) (h : Fin 768) : EReal :=
  ffn (fun d => X m c (Idealize.ShloMosaic.ix2 t d)) (fun k d => (m ((c : Thread nD τ).loc main_arg5) : FVec Ideal S8x1536x768 .f32) (ix3 e k d))
    (fun k d => (m ((c : Thread nD τ).loc main_arg6) : FVec Ideal S8x1536x768 .f32) (ix3 e k d))
    (fun h k => (m ((c : Thread nD τ).loc main_arg7) : FVec Ideal S8x768x1536 .f32) (ix3 e h k)) h

theorem row_bound (c : Dev nD) (q : Fin 4096) : row (EE m c) q < 5888 := (row_lt_all _ q).trans_le (ends_le_all _)
theorem row_bound' (c : Dev nD) (q : Fin 4096) : row (EE m c) q < 6144 := by have := row_bound m c q; omega

theorem cnt_at (c : Dev nD) : (Mlp.cnt (Mlp.tb (AD m))).toInt = ((ends (EE m c) 7 / 256 : ℕ) : ℤ) := by
  have e : Mlp.cnt (Mlp.tb (AD m)) = BitVec.ofNat 32 (ends (EE m c) 7 / 256) := by
    refine Eq.trans ?_ (be_last (X m c) (GW m c))
    rw [dev_eq c]
    refine Eq.trans ?_ (tabs_eq m 24)
    refine congrArg (tabs m 0 : IVec S25 32) ?_
    funext a; fin_cases a; rfl
  rw [e, ofNat_toInt]
  have := ends_le_all (EE m c); omega

section
variable (c : Dev nD) (t0 : Fin 2048) (h : Fin 768) (q : Fin 4096)

/-- The block and the place in it of choice `q`'s row. -/
def qb : Fin (cfg2 (AD m)).N := ⟨row (EE m c) q / 256, by have := row_bound m c q; show _ < 32; omega⟩
def qr : Fin 256 := ⟨row (EE m c) q % 256, Nat.mod_lt _ (by decide)⟩

theorem q_split : 256 * (grid2.coords (qb m c q) 0).val + (qr m c q).val = row (EE m c) q := by
  rw [Mlp.coords_val]; show 256 * (row (EE m c) q / 256) + row (EE m c) q % 256 = _; omega

theorem scr_read : Mlp.scr (W5 m) (AD m) c (Idealize.ShloMosaic.ix2 ⟨row (EE m c) q, row_bound' m c q⟩ h)
    = Mlp.scrAt (W5 m) (AD m) c (qb m c q) (Idealize.ShloMosaic.ix2 (qr m c q) h) := by
  unfold Mlp.scr
  refine congrArg _ ?_
  funext a; fin_cases a <;> rfl

theorem q_entry : draw (((AD m).1 0 : IVec S25 32) (ix1 (tabPos (grid2.coords (qb m c q))))) = EE m c q := by
  have hb := row_bound m c q
  exact entry m c (qb m c q) (by show row (EE m c) q / 256 < 24; omega) (EE m c q) (be_at (X m c) (GW m c) q _ rfl)

theorem scrAt_read : Mlp.scrAt (W5 m) (AD m) c (qb m c q)
    = k2_pay1 (F := Ideal) (k2_pay7 (BitVec.ofNat 32 (grid2.coords (qb m c q) 0).val) (pos1 (X m c) (GW m c)) (pos2 (X m c) (GW m c)) (wt1 (X m c) (GW m c)) (wt2 (X m c) (GW m c)))
        (k2_pay8 (BitVec.ofNat 32 (grid2.coords (qb m c q) 0).val) (pos1 (X m c) (GW m c)) (pos2 (X m c) (GW m c)) (XB m c))
        (k2_pay9 (Mlp.iblk (W5 m) (AD m) c 5 (qb m c q))) (Mlp.iblk (W5 m) (AD m) c 6 (qb m c q)) (Mlp.iblk (W5 m) (AD m) c 7 (qb m c q)) := by
  unfold Mlp.scrAt Mlp.rowsPay
  rw [if_pos]
  · rw [blk_0, blk_1, blk_2, blk_3, blk_4]
  · rw [cnt_at m c, ofNat_toInt _ (lt_trans (show (grid2.coords (qb m c q) 0).val < 32 from (grid2.coords (qb m c q) 0).isLt) (by decide)), Mlp.coords_val]
    exact_mod_cast block_lt (EE m c) q

/-- Which tokens sit in choice `q`'s row: only `t0`. -/
theorem others_elsewhere (hq : q = ⟨t0, fst_lt t0⟩ ∨ q = ⟨2048 + t0, snd_lt t0⟩) (t : Fin 2048) (ht : t ≠ t0) :
    row (EE m c) ⟨t, fst_lt t⟩ ≠ row (EE m c) q ∧ row (EE m c) ⟨2048 + t, snd_lt t⟩ ≠ row (EE m c) q := by
  have hv : (t : ℕ) ≠ t0 := fun e => ht (Fin.ext e)
  have := t.isLt; have := t0.isLt
  constructor <;> intro e <;> have e' := congrArg Fin.val (row_inj _ e) <;> rcases hq with hq | hq <;> rw [hq] at e' <;> simp only at e' <;> omega

theorem scr_at (w : EReal) (hq : q = ⟨t0, fst_lt t0⟩ ∨ q = ⟨2048 + t0, snd_lt t0⟩)
    (hw : k2_pay7 (F := Ideal) (BitVec.ofNat 32 (grid2.coords (qb m c q) 0).val) (pos1 (X m c) (GW m c)) (pos2 (X m c) (GW m c)) (wt1 (X m c) (GW m c)) (wt2 (X m c) (GW m c)) (Idealize.ShloMosaic.ix2 (qr m c q) 0) = w) :
    (Mlp.scr (W5 m) (AD m) c (Idealize.ShloMosaic.ix2 ⟨row (EE m c) q, row_bound' m c q⟩ h) : EReal) = expertV m c (EE m c q) t0 h * w := by
  refine (scr_read m c h q).trans ?_
  refine (congrFun (scrAt_read m c q) _).trans ?_
  refine (routed_at _ _ _ _ _ _ _).trans ?_
  rw [hw]
  refine congrArg (· * w) ?_
  have hx : (fun d => (k2_pay8 (F := Ideal) (BitVec.ofNat 32 (grid2.coords (qb m c q) 0).val) (pos1 (X m c) (GW m c)) (pos2 (X m c) (GW m c)) (XB m c) (Idealize.ShloMosaic.ix2 (qr m c q) d) : EReal))
      = fun d => X m c (Idealize.ShloMosaic.ix2 t0 d) := by
    funext d
    refine rows_at (pos1 (X m c) (GW m c)) (pos2 (X m c) (GW m c)) (fun t => row (EE m c) ⟨t, fst_lt t⟩) (fun t => row (EE m c) ⟨2048 + t, snd_lt t⟩)
      (p1_at _ _) (p2_at _ _) (fun t => row_bound' m c _) (fun t => row_bound' m c _) (grid2.coords (qb m c q) 0) (qr m c q) t0 ?_ ?_ (XB m c) d
    · intro t ht; rw [q_split]; exact others_elsewhere m c t0 q hq t ht
    · rw [q_split]; rcases hq with hq | hq
      · left; rw [hq]
      · right; rw [hq]
  refine (congrArg (fun f => ffn f _ _ _ h) hx).trans ?_
  unfold expertV
  have h5 : (fun (k : Fin 1536) (d : Fin 768) => (Mlp.iblk (W5 m) (AD m) c 5 (qb m c q) (ix3 0 k d) : EReal)) = _ := funext fun k => funext fun d => blk_5 m c (qb m c q) (EE m c q) (q_entry m c q) k d
  have h6 : (fun (k : Fin 1536) (d : Fin 768) => (Mlp.iblk (W5 m) (AD m) c 6 (qb m c q) (ix3 0 k d) : EReal)) = _ := funext fun k => funext fun d => blk_6 m c (qb m c q) (EE m c q) (q_entry m c q) k d
  have h7 : (fun (h : Fin 768) (k : Fin 1536) => (Mlp.iblk (W5 m) (AD m) c 7 (qb m c q) (ix3 0 h k) : EReal)) = _ := funext fun h => funext fun k => blk_7 m c (qb m c q) (EE m c q) (q_entry m c q) h k
  refine (congrArg (fun f => ffn _ f _ _ h) h5).trans ((congrArg (fun f => ffn _ _ f _ h) h6).trans (congrArg (fun f => ffn _ _ _ f h) h7))

theorem scr_fst (b : q = ⟨t0, fst_lt t0⟩) :
    (Mlp.scr (W5 m) (AD m) c (Idealize.ShloMosaic.ix2 ⟨row (EE m c) q, row_bound' m c q⟩ h) : EReal)
      = expertV m c (best (score (X m c) (GW m c) t0)) t0 h * bestW eps (score (X m c) (GW m c) t0) := by
  have hE : EE m c q = best (score (X m c) (GW m c) t0) := by rw [b]; exact pairE_fst _ _ _ _
  rw [← hE]
  refine scr_at m c t0 h q _ (Or.inl b) ?_
  refine Eq.trans ?_ (wt1_at (X m c) (GW m c) t0)
  refine wts_at1 (pos1 (X m c) (GW m c)) (pos2 (X m c) (GW m c)) (fun t => row (EE m c) ⟨t, fst_lt t⟩) (fun t => row (EE m c) ⟨2048 + t, snd_lt t⟩)
    (p1_at _ _) (p2_at _ _) (fun t => row_bound' m c _) (fun t => row_bound' m c _) (grid2.coords (qb m c q) 0) (qr m c q) t0 ?_ ?_ ?_ _ _
  · intro t ht; rw [q_split]; exact others_elsewhere m c t0 q (Or.inl b) t ht
  · rw [q_split, b]
  · rw [q_split, b]; intro e
    have e' := congrArg Fin.val (row_inj _ e); simp only at e'; have := t0.isLt; omega

theorem scr_snd (b : q = ⟨2048 + t0, snd_lt t0⟩) :
    (Mlp.scr (W5 m) (AD m) c (Idealize.ShloMosaic.ix2 ⟨row (EE m c) q, row_bound' m c q⟩ h) : EReal)
      = expertV m c (next (score (X m c) (GW m c) t0)) t0 h * nextW eps (score (X m c) (GW m c) t0) := by
  have hE : EE m c q = next (score (X m c) (GW m c) t0) := by rw [b]; exact pairE_snd _ _ _ _
  rw [← hE]
  refine scr_at m c t0 h q _ (Or.inr b) ?_
  refine Eq.trans ?_ (wt2_at (X m c) (GW m c) t0)
  refine wts_at2 (pos1 (X m c) (GW m c)) (pos2 (X m c) (GW m c)) (fun t => row (EE m c) ⟨t, fst_lt t⟩) (fun t => row (EE m c) ⟨2048 + t, snd_lt t⟩)
    (p1_at _ _) (p2_at _ _) (fun t => row_bound' m c _) (fun t => row_bound' m c _) (grid2.coords (qb m c q) 0) (qr m c q) t0 ?_ ?_ ?_ _ _
  · intro t ht; rw [q_split]; exact others_elsewhere m c t0 q (Or.inr b) t ht
  · rw [q_split, b]; intro e
    have e' := congrArg Fin.val (row_inj _ e); simp only at e'; have := t0.isLt; omega
  · rw [q_split, b]
end

/-- The kernel's result for token `t`. -/
def outV (c : Dev nD) : FVec Ideal S2048x768 .f32 := fun j =>
  expertV m c (best (score (X m c) (GW m c) (j 0))) (j 0) (j 1) * bestW eps (score (X m c) (GW m c) (j 0))
    + expertV m c (next (score (X m c) (GW m c) (j 0))) (j 0) (j 1) * nextW eps (score (X m c) (GW m c) (j 0))
    + SHV m c j

theorem out_at (c : Dev nD) (t : Fin (cfg2 (AD m)).N) (ht : 24 ≤ t.val) (r : Fin 256) (h : Fin 768) (j : Fin 2048) (hj : (j : ℕ) = (t.val - 24) * 256 + r) :
    (Mlp.outAt (W5 m) (AD m) c t (Idealize.ShloMosaic.ix2 r h) : EReal) = outV m c (Idealize.ShloMosaic.ix2 j h) := by
  have hc : 24 ≤ (grid2.coords t 0).val := by rw [Mlp.coords_val]; exact ht
  have hN : t.val < 32 := t.isLt
  rw [Mlp.outAt_comb _ _ _ _ hc, blk_1, blk_2]
  unfold Mlp.combPay
  have hcol : ∀ p : IVec S1x2048 32, VecWindow.window p ![0, 256 * ((grid2.coords t 0).val - 24)] S1x256.size (Mlp.comb_inb _ hc) (Idealize.ShloMosaic.ix2 0 r) = p (Idealize.ShloMosaic.ix2 0 j) := by
    intro p
    unfold VecWindow.window
    refine congrArg p ?_
    funext a; fin_cases a
    · rfl
    · refine Fin.ext ?_
      show 256 * ((grid2.coords t 0).val - 24) + 1 * (r : ℕ) = (j : ℕ)
      rw [Mlp.coords_val, hj]; omega
  refine (comb_at _ _ _ _ r h ⟨row (EE m c) ⟨j, fst_lt j⟩, row_bound' m c _⟩ ⟨row (EE m c) ⟨2048 + j, snd_lt j⟩, row_bound' m c _⟩ ?_ ?_ ?_).trans ?_
  · rw [hcol]; exact p1_at _ _ _
  · rw [hcol]; exact p2_at _ _ _
  · intro e
    have e' := congrArg Fin.val (row_inj _ (congrArg Fin.val e)); simp only at e'; have := j.isLt; omega
  · exact congrArg₂ (· + ·) (congrArg₂ (· + ·) (scr_fst m c j h _ rfl) (scr_snd m c j h _ rfl)) (blk_8 m c t r h j hj)

theorem covers9 (a : (pcfg2 (F := Ideal)).Adm) : ((cfg2 a).win 9).Covers := by
  refine Pipeline.Window.covers_of_index_surj _ rfl (by decide : ∀ x : Fin 2, 0 < S256x768.size x) fun β => ?_
  have h0 : (β (0 : Fin 2)).val < 8 :=
    lt_of_lt_of_eq (β (0 : Fin 2)).isLt (by show (S2048x768.size 0 + S256x768.size 0 - 1) / S256x768.size 0 = 8; decide)
  have h1 : (β (1 : Fin 2)).val < 1 :=
    lt_of_lt_of_eq (β (1 : Fin 2)).isLt (by show (S2048x768.size 1 + S256x768.size 1 - 1) / S256x768.size 1 = 1; decide)
  refine ⟨⟨(β (0 : Fin 2)).val + 24, by show _ < 32; omega⟩, fun x => ?_⟩
  rw [ix_9]
  obtain ⟨x', hx⟩ : ∃ x' : Fin 2, x' = x := ⟨x, rfl⟩
  rw [← hx]
  fin_cases x'
  · show (β (0 : Fin 2)).val + 24 - 24 = (β (0 : Fin 2)).val; omega
  · show 0 = (β (1 : Fin 2)).val; omega

theorem W6_v6 (c : Dev nD) : W6 m (ok2_ideal m) c main_v6 = outV m c := by
  refine (Pipeline.afterRegion_arr (Mlp.dat (W5 m) (AD m) c) (W5 m c) (launch2 (F := Ideal)).win.arr_inj 9).trans ?_
  refine (Mlp.dat (W5 m) (AD m) c).arrAt_eq_of_covers 9 _ (covers9 _) fun t ht y => ?_
  have ht' : 24 ≤ t.val := by rw [Mlp.flush_9] at ht; exact of_decide_eq_true ht
  blk_simp
  rw [Mlp.after_9]
  obtain ⟨y', hy'⟩ : ∃ y' : S256x768.Idx, y' = y := ⟨y, rfl⟩
  obtain ⟨j, hj⟩ : ∃ j : S2048x768.Idx, j = (((cfg2 (AD m)).win 9).blk t).view.emb y := ⟨_, rfl⟩
  have hm : ∀ x, ((((cfg2 (AD m)).win 9).blk t).view.emb y x : ℕ) = ((cfg2 (AD m)).win 9).index t x * ((cfg2 (AD m)).win 9).size x + (y x : ℕ) := by
    intro x; blk_simp
  have h0 : ((j 0 : Fin 2048) : ℕ) = (t.val - 24) * 256 + ((y' 0 : Fin 256) : ℕ) := by
    rw [hj, hy']; refine (hm (0 : Fin 2)).trans ?_; rw [ix_9]; rfl
  have h1 : ((j 1 : Fin 768) : ℕ) = ((y' 1 : Fin 768) : ℕ) := by
    rw [hj, hy']; refine (hm (1 : Fin 2)).trans ?_; rw [ix_9]
    show 0 * 768 + _ = _
    rw [Nat.zero_mul, Nat.zero_add]
  have hy : y' = Idealize.ShloMosaic.ix2 (y' 0 : Fin 256) (y' 1 : Fin 768) := by funext a; fin_cases a <;> rfl
  have hj2 : j = Idealize.ShloMosaic.ix2 (j 0 : Fin 2048) (y' 1 : Fin 768) := by
    funext a; fin_cases a
    · rfl
    · exact Fin.ext h1
  refine Eq.trans ?_ (congrArg (outV m c) hj)
  refine Eq.trans (congrArg (Mlp.outAt (W5 m) (AD m) c t) (hy'.symm.trans hy)) ?_
  exact (out_at m c t ht' _ _ (j 0) h0).trans (congrArg _ hj2.symm)

theorem W7_v7 (c : Dev nD) (t : Fin 2048) (h : Fin 768) :
    (W7 m (ok2_ideal m) c main_v7 : FVec Ideal S1x2048x768 .f32) (ix3 0 t h) = outV m c (Idealize.ShloMosaic.ix2 t h) := by
  have e : W7 m (ok2_ideal m) c main_v7 = shapeCast S1x2048x768 (outV m c) shapeCasts_S2048x768_S1x2048x768 := by
    unfold W7; rw [StableHlo.after_cons, StableHlo.after_nil, StableHlo.reshape_result, W6_v6]; rfl
  rw [e]
  pointwise

end Cert.KernelIdeal.Run
end
-- ==== Proof.RefVals.lean ====
/- What each operation of the reference leaves, over what the earlier ones left. -/
module

public import proofs.«01_k».proof.Proof.RefRun

@[expose] public section

set_option maxRecDepth 16384

noncomputable section

namespace Cert.ReferenceIdeal.Run

open Idealize.ShloMosaic Idealize.ShloMosaic.TcCoe
open Idealize.SL.Sem
open Cert.ReferenceIdeal Cert.ReferenceIdeal.Gen
open Idealize.ShloMosaic.StableHlo (after upto launchContents)

variable (m : (ℓ : Loc nD τ sig) → Buf (Elt Ideal) ℓ) (c : Dev nD)

abbrev A_arg0 : FVec Ideal S1x2048x768 .f32 := RV m c main_arg0
abbrev A_arg1 : FVec Ideal S8x768 .f32 := RV m c main_arg1
abbrev A_arg2 : FVec Ideal S1x1536x768 .f32 := RV m c main_arg2
abbrev A_arg3 : FVec Ideal S1x1536x768 .f32 := RV m c main_arg3
abbrev A_arg4 : FVec Ideal S1x768x1536 .f32 := RV m c main_arg4
abbrev A_arg5 : FVec Ideal S8x1536x768 .f32 := RV m c main_arg5
abbrev A_arg6 : FVec Ideal S8x1536x768 .f32 := RV m c main_arg6
abbrev A_arg7 : FVec Ideal S8x768x1536 .f32 := RV m c main_arg7
abbrev A_v0 : FVec Ideal S2048x768 .f32 := RV m c main_v0
abbrev A_v1 : FVec Ideal S2048x1x1536 .f32 := RV m c main_v1
abbrev A_v2 : FVec Ideal S2048x1x1536 .f32 := RV m c main_v2
abbrev A_call0_v0 : FVec Ideal S2048x1x1536 .f32 := RV m c main_call0_v0
abbrev A_call0_v1 : FVec Ideal S2048x1x1536 .f32 := RV m c main_call0_v1
abbrev A_call0_cst : FVec Ideal S_ .f32 := RV m c main_call0_cst
abbrev A_call0_v2 : FVec Ideal S2048x1x1536 .f32 := RV m c main_call0_v2
abbrev A_call0_v3 : FVec Ideal S2048x1x1536 .f32 := RV m c main_call0_v3
abbrev A_call0_cst_0 : FVec Ideal S_ .f32 := RV m c main_call0_cst_0
abbrev A_call0_v4 : FVec Ideal S2048x1x1536 .f32 := RV m c main_call0_v4
abbrev A_call0_v5 : FVec Ideal S2048x1x1536 .f32 := RV m c main_call0_v5
abbrev A_v3 : FVec Ideal S2048x1x1536 .f32 := RV m c main_v3
abbrev A_v4 : FVec Ideal S2048x1x1536 .f32 := RV m c main_v4
abbrev A_v5 : FVec Ideal S1x768x2048 .f32 := RV m c main_v5
abbrev A_v6 : FVec Ideal S2048x1x768 .f32 := RV m c main_v6
abbrev A_cst : FVec Ideal S_ .f32 := RV m c main_cst
abbrev A_v7 : FVec Ideal S2048x768 .f32 := RV m c main_v7
abbrev A_cst_0 : FVec Ideal S_ .f32 := RV m c main_cst_0
abbrev A_v8 : FVec Ideal S2048x768 .f32 := RV m c main_v8
abbrev A_v9 : FVec Ideal S2048x768 .f32 := RV m c main_v9
abbrev A_v10 : FVec Ideal S768x8 .f32 := RV m c main_v10
abbrev A_v11 : FVec Ideal S2048x8 .f32 := RV m c main_v11
abbrev A_cst_1 : FVec Ideal S_ .f32 := RV m c main_cst_1
abbrev A_v12 : FVec Ideal S2048 .f32 := RV m c main_v12
abbrev A_cst_2 : FVec Ideal S_ .f32 := RV m c main_cst_2
abbrev A_v13 : FVec Ideal S2048 .f32 := RV m c main_v13
abbrev A_v14 : FVec Ideal S2048 .f32 := RV m c main_v14
abbrev A_v15 : FVec Ideal S2048x1 .f32 := RV m c main_v15
abbrev A_v16 : FVec Ideal S2048x8 .f32 := RV m c main_v16
abbrev A_v17 : FVec Ideal S2048x8 .f32 := RV m c main_v17
abbrev A_v18 : FVec Ideal S2048x8 .f32 := RV m c main_v18
abbrev A_cst_3 : FVec Ideal S_ .f32 := RV m c main_cst_3
abbrev A_v19 : FVec Ideal S2048 .f32 := RV m c main_v19
abbrev A_v20 : FVec Ideal S2048x1 .f32 := RV m c main_v20
abbrev A_v21 : FVec Ideal S2048x8 .f32 := RV m c main_v21
abbrev A_v22 : FVec Ideal S2048x8 .f32 := RV m c main_v22
abbrev A_values : FVec Ideal S2048x2 .f32 := RV m c main_values
abbrev A_indices : IVec S2048x2 32 := RV m c main_indices
abbrev A_call1_c : IVec S_ 32 := RV m c main_call1_c
abbrev A_call1_v0 : IVec S2048x2 32 := RV m c main_call1_v0
abbrev A_call1_v1 : IVec S2048x2 1 := RV m c main_call1_v1
abbrev A_call1_c_0 : IVec S_ 32 := RV m c main_call1_c_0
abbrev A_call1_v2 : IVec S2048x2 32 := RV m c main_call1_v2
abbrev A_call1_v3 : IVec S2048x2 32 := RV m c main_call1_v3
abbrev A_call1_v4 : IVec S2048x2 32 := RV m c main_call1_v4
abbrev A_call1_v5 : IVec S2048x2x1 32 := RV m c main_call1_v5
abbrev A_call1_c_1 : IVec S1 32 := RV m c main_call1_c_1
abbrev A_call1_c_2 : IVec S_ 32 := RV m c main_call1_c_2
abbrev A_call1_v6 : IVec S2048x2x1 32 := RV m c main_call1_v6
abbrev A_call1_v7 : IVec S2048x2x1 1 := RV m c main_call1_v7
abbrev A_call1_v8 : IVec S1x1x1 32 := RV m c main_call1_v8
abbrev A_call1_v9 : IVec S2048x2x1 32 := RV m c main_call1_v9
abbrev A_call1_v10 : IVec S2048x2x1 1 := RV m c main_call1_v10
abbrev A_call1_v11 : IVec S2048x2x1 1 := RV m c main_call1_v11
abbrev A_call1_c_3 : IVec S_ 1 := RV m c main_call1_c_3
abbrev A_call1_v12 : IVec S2048x2 1 := RV m c main_call1_v12
abbrev A_call1_v13 : FVec Ideal S2048x2 .f32 := RV m c main_call1_v13
abbrev A_call1_cst : FVec Ideal S_ .f32 := RV m c main_call1_cst
abbrev A_call1_v14 : FVec Ideal S2048x2 .f32 := RV m c main_call1_v14
abbrev A_v23 : FVec Ideal S2048x2 .f32 := RV m c main_v23
abbrev A_cst_4 : FVec Ideal S_ .f32 := RV m c main_cst_4
abbrev A_v24 : FVec Ideal S2048 .f32 := RV m c main_v24
abbrev A_v25 : FVec Ideal S2048x1 .f32 := RV m c main_v25
abbrev A_cst_5 : FVec Ideal S_ .f32 := RV m c main_cst_5
abbrev A_v26 : FVec Ideal S2048x1 .f32 := RV m c main_v26
abbrev A_v27 : FVec Ideal S2048x1 .f32 := RV m c main_v27
abbrev A_v28 : FVec Ideal S2048x2 .f32 := RV m c main_v28
abbrev A_v29 : FVec Ideal S2048x2 .f32 := RV m c main_v29
abbrev A_cst_6 : FVec Ideal S_ .f32 := RV m c main_cst_6
abbrev A_v30 : FVec Ideal S2048x2 .f32 := RV m c main_v30
abbrev A_v31 : FVec Ideal S2048x2 .f32 := RV m c main_v31
abbrev A_cst_7 : FVec Ideal S_ .f32 := RV m c main_cst_7
abbrev A_v32 : FVec Ideal S2048x8 .f32 := RV m c main_v32
abbrev A_v33 : IVec S2048 32 := RV m c main_v33
abbrev A_v34 : IVec S2048x1 32 := RV m c main_v34
abbrev A_c : IVec S_ 32 := RV m c main_c
abbrev A_v35 : IVec S2048x1 32 := RV m c main_v35
abbrev A_v36 : IVec S2048x1 1 := RV m c main_v36
abbrev A_c_8 : IVec S_ 32 := RV m c main_c_8
abbrev A_v37 : IVec S2048x1 32 := RV m c main_v37
abbrev A_v38 : IVec S2048x1 32 := RV m c main_v38
abbrev A_v39 : IVec S2048x1 32 := RV m c main_v39
abbrev A_c_9 : IVec S_ 32 := RV m c main_c_9
abbrev A_v40 : IVec S2048x2 32 := RV m c main_v40
abbrev A_v41 : IVec S2048x2 1 := RV m c main_v41
abbrev A_c_10 : IVec S_ 32 := RV m c main_c_10
abbrev A_v42 : IVec S2048x2 32 := RV m c main_v42
abbrev A_v43 : IVec S2048x2 32 := RV m c main_v43
abbrev A_v44 : IVec S2048x2 32 := RV m c main_v44
abbrev A_v45 : IVec S2048x2 32 := RV m c main_v45
abbrev A_v46 : IVec S2048x2x1 32 := RV m c main_v46
abbrev A_v47 : IVec S2048x2x1 32 := RV m c main_v47
abbrev A_v48 : IVec S2048x2x2 32 := RV m c main_v48
abbrev A_v49 : FVec Ideal S2048x8 .f32 := RV m c main_v49
abbrev A_v50 : FVec Ideal S2048x8x1536 .f32 := RV m c main_v50
abbrev A_v51 : FVec Ideal S2048x8x1536 .f32 := RV m c main_v51
abbrev A_call2_v0 : FVec Ideal S2048x8x1536 .f32 := RV m c main_call2_v0
abbrev A_call2_v1 : FVec Ideal S2048x8x1536 .f32 := RV m c main_call2_v1
abbrev A_call2_cst : FVec Ideal S_ .f32 := RV m c main_call2_cst
abbrev A_call2_v2 : FVec Ideal S2048x8x1536 .f32 := RV m c main_call2_v2
abbrev A_call2_v3 : FVec Ideal S2048x8x1536 .f32 := RV m c main_call2_v3
abbrev A_call2_cst_0 : FVec Ideal S_ .f32 := RV m c main_call2_cst_0
abbrev A_call2_v4 : FVec Ideal S2048x8x1536 .f32 := RV m c main_call2_v4
abbrev A_call2_v5 : FVec Ideal S2048x8x1536 .f32 := RV m c main_call2_v5
abbrev A_v52 : FVec Ideal S2048x8x1536 .f32 := RV m c main_v52
abbrev A_v53 : FVec Ideal S2048x8x1536 .f32 := RV m c main_v53
abbrev A_v54 : FVec Ideal S8x768x2048 .f32 := RV m c main_v54
abbrev A_v55 : FVec Ideal S2048x8x768 .f32 := RV m c main_v55
abbrev A_v56 : FVec Ideal S2048x768 .f32 := RV m c main_v56
abbrev A_v57 : FVec Ideal S2048x768 .f32 := RV m c main_v57
abbrev A_v58 : FVec Ideal S1x2048x768 .f32 := RV m c main_v58

set_option maxHeartbeats 1000000 in
theorem e_v0 : A_v0 m c = shapeCast _ (A_arg0 m c) shapeCasts_S1x2048x768_S2048x768 :=
  rv_reshape m c 0 rfl (by decide) (by decide)

set_option maxHeartbeats 1000000 in
theorem e_v1 : A_v1 m c = Host.dotGeneral dot_S2048x768_S1x1536x768_S2048x1x1536_1_2_0_01_n_n none (A_v0 m c) (A_arg2 m c) :=
  rv_binary m c 1 rfl (by decide) (by decide) (by decide)

set_option maxHeartbeats 1000000 in
theorem e_v2 : A_v2 m c = Host.dotGeneral dot_S2048x768_S1x1536x768_S2048x1x1536_1_2_0_01_n_n none (A_v0 m c) (A_arg3 m c) :=
  rv_binary m c 2 rfl (by decide) (by decide) (by decide)

set_option maxHeartbeats 1000000 in
theorem e_call0_v0 : A_call0_v0 m c = Host.negf (A_v1 m c) :=
  rv_unary m c 3 rfl (by decide) (by decide)

set_option maxHeartbeats 1000000 in
theorem e_call0_v1 : A_call0_v1 m c = Host.exp (A_call0_v0 m c) :=
  rv_unary m c 4 rfl (by decide) (by decide)

set_option maxHeartbeats 1000000 in
theorem e_call0_cst : A_call0_cst m c = (constant S_ .f32 0x3F800000#32) :=
  rv_nullary m c 5 rfl (by decide)

set_option maxHeartbeats 1000000 in
theorem e_call0_v2 : A_call0_v2 m c = (broadcastInDim S2048x1x1536 ![] bcast_S_S2048x1x1536) (A_call0_cst m c) :=
  rv_unary m c 6 rfl (by decide) (by decide)

set_option maxHeartbeats 1000000 in
theorem e_call0_v3 : A_call0_v3 m c = addf (A_call0_v2 m c) (A_call0_v1 m c) :=
  rv_binary m c 7 rfl (by decide) (by decide) (by decide)

set_option maxHeartbeats 1000000 in
theorem e_call0_cst_0 : A_call0_cst_0 m c = (constant S_ .f32 0x3F800000#32) :=
  rv_nullary m c 8 rfl (by decide)

set_option maxHeartbeats 1000000 in
theorem e_call0_v4 : A_call0_v4 m c = (broadcastInDim S2048x1x1536 ![] bcast_S_S2048x1x1536) (A_call0_cst_0 m c) :=
  rv_unary m c 9 rfl (by decide) (by decide)

set_option maxHeartbeats 1000000 in
theorem e_call0_v5 : A_call0_v5 m c = Host.divf (A_call0_v4 m c) (A_call0_v3 m c) :=
  rv_binary m c 10 rfl (by decide) (by decide) (by decide)

set_option maxHeartbeats 1000000 in
theorem e_v3 : A_v3 m c = mulf (A_v1 m c) (A_call0_v5 m c) :=
  rv_binary m c 11 rfl (by decide) (by decide) (by decide)

set_option maxHeartbeats 1000000 in
theorem e_v4 : A_v4 m c = mulf (A_v3 m c) (A_v2 m c) :=
  rv_binary m c 12 rfl (by decide) (by decide) (by decide)

set_option maxHeartbeats 1000000 in
theorem e_v5 : A_v5 m c = Host.dotGeneral dot_S1x768x1536_S2048x1x1536_S1x768x2048_2_2_1_0_0_1 none (A_arg4 m c) (A_v4 m c) :=
  rv_binary m c 13 rfl (by decide) (by decide) (by decide)

set_option maxHeartbeats 1000000 in
theorem e_v6 : A_v6 m c = (transpose S2048x1x768 [2, 0, 1] (A_v5 m c) transposes_S1x768x2048_S2048x1x768_2_0_1) :=
  rv_unary m c 14 rfl (by decide) (by decide)

set_option maxHeartbeats 1000000 in
theorem e_cst : A_cst m c = (constant S_ .f32 0x00000000#32) :=
  rv_nullary m c 15 rfl (by decide)

set_option maxHeartbeats 1000000 in
theorem e_v7 : A_v7 m c = Host.reduceAdd (A_v6 m c) (A_cst m c) reducesTo_S2048x1x768_S2048x768_d1 h_S_ :=
  rv_binary m c 16 rfl (by decide) (by decide) (by decide)

set_option maxHeartbeats 1000000 in
theorem e_cst_0 : A_cst_0 m c = (constant S_ .f32 0x3F800000#32) :=
  rv_nullary m c 17 rfl (by decide)

set_option maxHeartbeats 1000000 in
theorem e_v8 : A_v8 m c = (broadcastInDim S2048x768 ![] bcast_S_S2048x768) (A_cst_0 m c) :=
  rv_unary m c 18 rfl (by decide) (by decide)

set_option maxHeartbeats 1000000 in
theorem e_v9 : A_v9 m c = Host.divf (A_v7 m c) (A_v8 m c) :=
  rv_binary m c 19 rfl (by decide) (by decide) (by decide)

set_option maxHeartbeats 1000000 in
theorem e_v10 : A_v10 m c = (transpose S768x8 [1, 0] (A_arg1 m c) transposes_S8x768_S768x8_1_0) :=
  rv_unary m c 20 rfl (by decide) (by decide)

set_option maxHeartbeats 1000000 in
theorem e_v11 : A_v11 m c = Host.dotGeneral dot_S2048x768_S768x8_S2048x8_1_0_0_1_n_n none (A_v0 m c) (A_v10 m c) :=
  rv_binary m c 21 rfl (by decide) (by decide) (by decide)

set_option maxHeartbeats 1000000 in
theorem e_cst_1 : A_cst_1 m c = (constant S_ .f32 0xFF800000#32) :=
  rv_nullary m c 22 rfl (by decide)

set_option maxHeartbeats 1000000 in
theorem e_v12 : A_v12 m c = Host.reduce FloatOps.maximumf (A_v11 m c) (A_cst_1 m c) reducesTo_S2048x8_S2048_d1 h_S_ :=
  rv_binary m c 23 rfl (by decide) (by decide) (by decide)

set_option maxHeartbeats 1000000 in
theorem e_cst_2 : A_cst_2 m c = (constant S_ .f32 0xFF800000#32) :=
  rv_nullary m c 24 rfl (by decide)

set_option maxHeartbeats 1000000 in
theorem e_v13 : A_v13 m c = (broadcastInDim S2048 ![] bcast_S_S2048) (A_cst_2 m c) :=
  rv_unary m c 25 rfl (by decide) (by decide)

set_option maxHeartbeats 1000000 in
theorem e_v14 : A_v14 m c = maximumf (A_v13 m c) (A_v12 m c) :=
  rv_binary m c 26 rfl (by decide) (by decide) (by decide)

set_option maxHeartbeats 1000000 in
theorem e_v15 : A_v15 m c = (broadcastInDim S2048x1 ![0] bcast_S2048_S2048x1_0) (A_v14 m c) :=
  rv_unary m c 27 rfl (by decide) (by decide)

set_option maxHeartbeats 1000000 in
theorem e_v16 : A_v16 m c = (broadcastInDim S2048x8 ![0, 1] bcast_S2048x1_S2048x8_0_1) (A_v15 m c) :=
  rv_unary m c 28 rfl (by decide) (by decide)

set_option maxHeartbeats 1000000 in
theorem e_v17 : A_v17 m c = subf (A_v11 m c) (A_v16 m c) :=
  rv_binary m c 29 rfl (by decide) (by decide) (by decide)

set_option maxHeartbeats 1000000 in
theorem e_v18 : A_v18 m c = Host.exp (A_v17 m c) :=
  rv_unary m c 30 rfl (by decide) (by decide)

set_option maxHeartbeats 1000000 in
theorem e_cst_3 : A_cst_3 m c = (constant S_ .f32 0x00000000#32) :=
  rv_nullary m c 31 rfl (by decide)

set_option maxHeartbeats 1000000 in
theorem e_v19 : A_v19 m c = Host.reduceAdd (A_v18 m c) (A_cst_3 m c) reducesTo_S2048x8_S2048_d1 h_S_ :=
  rv_binary m c 32 rfl (by decide) (by decide) (by decide)

set_option maxHeartbeats 1000000 in
theorem e_v20 : A_v20 m c = (broadcastInDim S2048x1 ![0] bcast_S2048_S2048x1_0) (A_v19 m c) :=
  rv_unary m c 33 rfl (by decide) (by decide)

set_option maxHeartbeats 1000000 in
theorem e_v21 : A_v21 m c = (broadcastInDim S2048x8 ![0, 1] bcast_S2048x1_S2048x8_0_1) (A_v20 m c) :=
  rv_unary m c 34 rfl (by decide) (by decide)

set_option maxHeartbeats 1000000 in
theorem e_v22 : A_v22 m c = Host.divf (A_v18 m c) (A_v21 m c) :=
  rv_binary m c 35 rfl (by decide) (by decide) (by decide)

set_option maxHeartbeats 1000000 in
theorem e_values : A_values m c = (Host.topK S2048x2 1 (FloatOps.cmpfTotal .gt) (A_v22 m c) sliceFits_S2048x8_S2048x2).1 :=
  rv_unary m c 36 rfl (by decide) (by decide)

set_option maxHeartbeats 1000000 in
theorem e_indices : A_indices m c = (Host.topK S2048x2 1 (FloatOps.cmpfTotal .gt) (A_v22 m c) sliceFits_S2048x8_S2048x2).2 :=
  rv_unary m c 37 rfl (by decide) (by decide)

set_option maxHeartbeats 1000000 in
theorem e_call1_c : A_call1_c m c = (constantI S_ 32 0#32) :=
  rv_nullary m c 38 rfl (by decide)

set_option maxHeartbeats 1000000 in
theorem e_call1_v0 : A_call1_v0 m c = (broadcastInDim S2048x2 ![] bcast_S_S2048x2) (A_call1_c m c) :=
  rv_unary m c 39 rfl (by decide) (by decide)

set_option maxHeartbeats 1000000 in
theorem e_call1_v1 : A_call1_v1 m c = (cmpi .slt) (A_indices m c) (A_call1_v0 m c) :=
  rv_binary m c 40 rfl (by decide) (by decide) (by decide)

set_option maxHeartbeats 1000000 in
theorem e_call1_c_0 : A_call1_c_0 m c = (constantI S_ 32 8#32) :=
  rv_nullary m c 41 rfl (by decide)

set_option maxHeartbeats 1000000 in
theorem e_call1_v2 : A_call1_v2 m c = (broadcastInDim S2048x2 ![] bcast_S_S2048x2) (A_call1_c_0 m c) :=
  rv_unary m c 42 rfl (by decide) (by decide)

set_option maxHeartbeats 1000000 in
theorem e_call1_v3 : A_call1_v3 m c = addi (A_indices m c) (A_call1_v2 m c) :=
  rv_binary m c 43 rfl (by decide) (by decide) (by decide)

set_option maxHeartbeats 1000000 in
theorem e_call1_v4 : A_call1_v4 m c = select (A_call1_v1 m c) (A_call1_v3 m c) (A_indices m c) :=
  rv_ternary m c 44 rfl (by decide) (by decide) (by decide) (by decide)

set_option maxHeartbeats 1000000 in
theorem e_call1_v5 : A_call1_v5 m c = shapeCast S2048x2x1 (A_call1_v4 m c) shapeCasts_S2048x2_S2048x2x1 :=
  (rv_reshape m c 45 (x := main_call1_v4) (y := main_call1_v5) (he := rfl) (hn := shapeCasts_S2048x2_S2048x2x1) rfl (by decide) (by decide)).trans rfl

set_option maxHeartbeats 1000000 in
theorem e_call1_c_1 : A_call1_c_1 m c = (constantI S1 32 7#32) :=
  rv_nullary m c 46 rfl (by decide)

set_option maxHeartbeats 1000000 in
theorem e_call1_c_2 : A_call1_c_2 m c = (constantI S_ 32 0#32) :=
  rv_nullary m c 47 rfl (by decide)

set_option maxHeartbeats 1000000 in
theorem e_call1_v6 : A_call1_v6 m c = (broadcastInDim S2048x2x1 ![] bcast_S_S2048x2x1) (A_call1_c_2 m c) :=
  rv_unary m c 48 rfl (by decide) (by decide)

set_option maxHeartbeats 1000000 in
theorem e_call1_v7 : A_call1_v7 m c = (cmpi .sge) (A_call1_v5 m c) (A_call1_v6 m c) :=
  rv_binary m c 49 rfl (by decide) (by decide) (by decide)

set_option maxHeartbeats 1000000 in
theorem e_call1_v8 : A_call1_v8 m c = (broadcastInDim S1x1x1 ![2] bcast_S1_S1x1x1_2) (A_call1_c_1 m c) :=
  rv_unary m c 50 rfl (by decide) (by decide)

set_option maxHeartbeats 1000000 in
theorem e_call1_v9 : A_call1_v9 m c = (broadcastInDim S2048x2x1 ![0, 1, 2] bcast_S1x1x1_S2048x2x1_0_1_2) (A_call1_v8 m c) :=
  rv_unary m c 51 rfl (by decide) (by decide)

set_option maxHeartbeats 1000000 in
theorem e_call1_v10 : A_call1_v10 m c = (cmpi .sle) (A_call1_v5 m c) (A_call1_v9 m c) :=
  rv_binary m c 52 rfl (by decide) (by decide) (by decide)

set_option maxHeartbeats 1000000 in
theorem e_call1_v11 : A_call1_v11 m c = andi (A_call1_v7 m c) (A_call1_v10 m c) :=
  rv_binary m c 53 rfl (by decide) (by decide) (by decide)

set_option maxHeartbeats 1000000 in
theorem e_call1_c_3 : A_call1_c_3 m c = (constantI S_ 1 1#1) :=
  rv_nullary m c 54 rfl (by decide)

set_option maxHeartbeats 1000000 in
theorem e_call1_v12 : A_call1_v12 m c = Host.reduce IntOp.andi (A_call1_v11 m c) (A_call1_c_3 m c) reducesTo_S2048x2x1_S2048x2_d2 h_S_ :=
  rv_binary m c 55 rfl (by decide) (by decide) (by decide)

set_option maxHeartbeats 1000000 in
theorem e_call1_v13 : A_call1_v13 m c = Host.gather gather_S2048x8_S2048x2x1_S2048x2_n_1_0_0_1_2_11 (A_v22 m c) (A_call1_v5 m c) :=
  rv_binary m c 56 rfl (by decide) (by decide) (by decide)

set_option maxHeartbeats 1000000 in
theorem e_call1_cst : A_call1_cst m c = (constant S_ .f32 0x7FC00000#32) :=
  rv_nullary m c 57 rfl (by decide)

set_option maxHeartbeats 1000000 in
theorem e_call1_v14 : A_call1_v14 m c = (broadcastInDim S2048x2 ![] bcast_S_S2048x2) (A_call1_cst m c) :=
  rv_unary m c 58 rfl (by decide) (by decide)

set_option maxHeartbeats 1000000 in
theorem e_v23 : A_v23 m c = select (A_call1_v12 m c) (A_call1_v13 m c) (A_call1_v14 m c) :=
  rv_ternary m c 59 rfl (by decide) (by decide) (by decide) (by decide)

set_option maxHeartbeats 1000000 in
theorem e_cst_4 : A_cst_4 m c = (constant S_ .f32 0x00000000#32) :=
  rv_nullary m c 60 rfl (by decide)

set_option maxHeartbeats 1000000 in
theorem e_v24 : A_v24 m c = Host.reduceAdd (A_v23 m c) (A_cst_4 m c) reducesTo_S2048x2_S2048_d1 h_S_ :=
  rv_binary m c 61 rfl (by decide) (by decide) (by decide)

set_option maxHeartbeats 1000000 in
theorem e_v25 : A_v25 m c = (broadcastInDim S2048x1 ![0] bcast_S2048_S2048x1_0) (A_v24 m c) :=
  rv_unary m c 62 rfl (by decide) (by decide)

set_option maxHeartbeats 1000000 in
theorem e_cst_5 : A_cst_5 m c = (constant S_ .f32 0x322BCC77#32) :=
  rv_nullary m c 63 rfl (by decide)

set_option maxHeartbeats 1000000 in
theorem e_v26 : A_v26 m c = (broadcastInDim S2048x1 ![] bcast_S_S2048x1) (A_cst_5 m c) :=
  rv_unary m c 64 rfl (by decide) (by decide)

set_option maxHeartbeats 1000000 in
theorem e_v27 : A_v27 m c = addf (A_v25 m c) (A_v26 m c) :=
  rv_binary m c 65 rfl (by decide) (by decide) (by decide)

set_option maxHeartbeats 1000000 in
theorem e_v28 : A_v28 m c = (broadcastInDim S2048x2 ![0, 1] bcast_S2048x1_S2048x2_0_1) (A_v27 m c) :=
  rv_unary m c 66 rfl (by decide) (by decide)

set_option maxHeartbeats 1000000 in
theorem e_v29 : A_v29 m c = Host.divf (A_v23 m c) (A_v28 m c) :=
  rv_binary m c 67 rfl (by decide) (by decide) (by decide)

set_option maxHeartbeats 1000000 in
theorem e_cst_6 : A_cst_6 m c = (constant S_ .f32 0x3F800000#32) :=
  rv_nullary m c 68 rfl (by decide)

set_option maxHeartbeats 1000000 in
theorem e_v30 : A_v30 m c = (broadcastInDim S2048x2 ![] bcast_S_S2048x2) (A_cst_6 m c) :=
  rv_unary m c 69 rfl (by decide) (by decide)

set_option maxHeartbeats 1000000 in
theorem e_v31 : A_v31 m c = mulf (A_v29 m c) (A_v30 m c) :=
  rv_binary m c 70 rfl (by decide) (by decide) (by decide)

set_option maxHeartbeats 1000000 in
theorem e_cst_7 : A_cst_7 m c = (constant S_ .f32 0x00000000#32) :=
  rv_nullary m c 71 rfl (by decide)

set_option maxHeartbeats 1000000 in
theorem e_v32 : A_v32 m c = (broadcastInDim S2048x8 ![] bcast_S_S2048x8) (A_cst_7 m c) :=
  rv_unary m c 72 rfl (by decide) (by decide)

set_option maxHeartbeats 1000000 in
theorem e_v33 : A_v33 m c = (iotaInDim S2048 32 0) :=
  rv_nullary m c 73 rfl (by decide)

set_option maxHeartbeats 1000000 in
theorem e_v34 : A_v34 m c = (broadcastInDim S2048x1 ![0] bcast_S2048_S2048x1_0) (A_v33 m c) :=
  rv_unary m c 74 rfl (by decide) (by decide)

set_option maxHeartbeats 1000000 in
theorem e_c : A_c m c = (constantI S_ 32 0#32) :=
  rv_nullary m c 75 rfl (by decide)

set_option maxHeartbeats 1000000 in
theorem e_v35 : A_v35 m c = (broadcastInDim S2048x1 ![] bcast_S_S2048x1) (A_c m c) :=
  rv_unary m c 76 rfl (by decide) (by decide)

set_option maxHeartbeats 1000000 in
theorem e_v36 : A_v36 m c = (cmpi .slt) (A_v34 m c) (A_v35 m c) :=
  rv_binary m c 77 rfl (by decide) (by decide) (by decide)

set_option maxHeartbeats 1000000 in
theorem e_c_8 : A_c_8 m c = (constantI S_ 32 2048#32) :=
  rv_nullary m c 78 rfl (by decide)

set_option maxHeartbeats 1000000 in
theorem e_v37 : A_v37 m c = (broadcastInDim S2048x1 ![] bcast_S_S2048x1) (A_c_8 m c) :=
  rv_unary m c 79 rfl (by decide) (by decide)

set_option maxHeartbeats 1000000 in
theorem e_v38 : A_v38 m c = addi (A_v34 m c) (A_v37 m c) :=
  rv_binary m c 80 rfl (by decide) (by decide) (by decide)

set_option maxHeartbeats 1000000 in
theorem e_v39 : A_v39 m c = select (A_v36 m c) (A_v38 m c) (A_v34 m c) :=
  rv_ternary m c 81 rfl (by decide) (by decide) (by decide) (by decide)

set_option maxHeartbeats 1000000 in
theorem e_c_9 : A_c_9 m c = (constantI S_ 32 0#32) :=
  rv_nullary m c 82 rfl (by decide)

set_option maxHeartbeats 1000000 in
theorem e_v40 : A_v40 m c = (broadcastInDim S2048x2 ![] bcast_S_S2048x2) (A_c_9 m c) :=
  rv_unary m c 83 rfl (by decide) (by decide)

set_option maxHeartbeats 1000000 in
theorem e_v41 : A_v41 m c = (cmpi .slt) (A_indices m c) (A_v40 m c) :=
  rv_binary m c 84 rfl (by decide) (by decide) (by decide)

set_option maxHeartbeats 1000000 in
theorem e_c_10 : A_c_10 m c = (constantI S_ 32 8#32) :=
  rv_nullary m c 85 rfl (by decide)

set_option maxHeartbeats 1000000 in
theorem e_v42 : A_v42 m c = (broadcastInDim S2048x2 ![] bcast_S_S2048x2) (A_c_10 m c) :=
  rv_unary m c 86 rfl (by decide) (by decide)

set_option maxHeartbeats 1000000 in
theorem e_v43 : A_v43 m c = addi (A_indices m c) (A_v42 m c) :=
  rv_binary m c 87 rfl (by decide) (by decide) (by decide)

set_option maxHeartbeats 1000000 in
theorem e_v44 : A_v44 m c = select (A_v41 m c) (A_v43 m c) (A_indices m c) :=
  rv_ternary m c 88 rfl (by decide) (by decide) (by decide) (by decide)

set_option maxHeartbeats 1000000 in
theorem e_v45 : A_v45 m c = (broadcastInDim S2048x2 ![0, 1] bcast_S2048x1_S2048x2_0_1) (A_v39 m c) :=
  rv_unary m c 89 rfl (by decide) (by decide)

set_option maxHeartbeats 1000000 in
theorem e_v46 : A_v46 m c = (broadcastInDim S2048x2x1 ![0, 1] bcast_S2048x2_S2048x2x1_0_1) (A_v45 m c) :=
  rv_unary m c 90 rfl (by decide) (by decide)

set_option maxHeartbeats 1000000 in
theorem e_v47 : A_v47 m c = (broadcastInDim S2048x2x1 ![0, 1] bcast_S2048x2_S2048x2x1_0_1) (A_v44 m c) :=
  rv_unary m c 91 rfl (by decide) (by decide)

set_option maxHeartbeats 1000000 in
theorem e_v48 : A_v48 m c = concatenate S2048x2x2 2 [⟨S2048x2x1, (A_v46 m c)⟩, ⟨S2048x2x1, (A_v47 m c)⟩] concatenates_S2048x2x1_S2048x2x1_S2048x2x2_d2 :=
  rv_binary m c 92 rfl (by decide) (by decide) (by decide)

set_option maxHeartbeats 1000000 in
theorem e_v49 : A_v49 m c = Host.scatterAdd scatter_S2048x8_S2048x2x2_S2048x2_n_01_01_2 (A_v32 m c) (A_v48 m c) (A_v31 m c) :=
  rv_ternary m c 93 rfl (by decide) (by decide) (by decide) (by decide)

set_option maxHeartbeats 1000000 in
theorem e_v50 : A_v50 m c = Host.dotGeneral dot_S2048x768_S8x1536x768_S2048x8x1536_1_2_0_01_n_n none (A_v0 m c) (A_arg5 m c) :=
  rv_binary m c 94 rfl (by decide) (by decide) (by decide)

set_option maxHeartbeats 1000000 in
theorem e_v51 : A_v51 m c = Host.dotGeneral dot_S2048x768_S8x1536x768_S2048x8x1536_1_2_0_01_n_n none (A_v0 m c) (A_arg6 m c) :=
  rv_binary m c 95 rfl (by decide) (by decide) (by decide)

set_option maxHeartbeats 1000000 in
theorem e_call2_v0 : A_call2_v0 m c = Host.negf (A_v50 m c) :=
  rv_unary m c 96 rfl (by decide) (by decide)

set_option maxHeartbeats 1000000 in
theorem e_call2_v1 : A_call2_v1 m c = Host.exp (A_call2_v0 m c) :=
  rv_unary m c 97 rfl (by decide) (by decide)

set_option maxHeartbeats 1000000 in
theorem e_call2_cst : A_call2_cst m c = (constant S_ .f32 0x3F800000#32) :=
  rv_nullary m c 98 rfl (by decide)

set_option maxHeartbeats 1000000 in
theorem e_call2_v2 : A_call2_v2 m c = (broadcastInDim S2048x8x1536 ![] bcast_S_S2048x8x1536) (A_call2_cst m c) :=
  rv_unary m c 99 rfl (by decide) (by decide)

set_option maxHeartbeats 1000000 in
theorem e_call2_v3 : A_call2_v3 m c = addf (A_call2_v2 m c) (A_call2_v1 m c) :=
  rv_binary m c 100 rfl (by decide) (by decide) (by decide)

set_option maxHeartbeats 1000000 in
theorem e_call2_cst_0 : A_call2_cst_0 m c = (constant S_ .f32 0x3F800000#32) :=
  rv_nullary m c 101 rfl (by decide)

set_option maxHeartbeats 1000000 in
theorem e_call2_v4 : A_call2_v4 m c = (broadcastInDim S2048x8x1536 ![] bcast_S_S2048x8x1536) (A_call2_cst_0 m c) :=
  rv_unary m c 102 rfl (by decide) (by decide)

set_option maxHeartbeats 1000000 in
theorem e_call2_v5 : A_call2_v5 m c = Host.divf (A_call2_v4 m c) (A_call2_v3 m c) :=
  rv_binary m c 103 rfl (by decide) (by decide) (by decide)

set_option maxHeartbeats 1000000 in
theorem e_v52 : A_v52 m c = mulf (A_v50 m c) (A_call2_v5 m c) :=
  rv_binary m c 104 rfl (by decide) (by decide) (by decide)

set_option maxHeartbeats 1000000 in
theorem e_v53 : A_v53 m c = mulf (A_v52 m c) (A_v51 m c) :=
  rv_binary m c 105 rfl (by decide) (by decide) (by decide)

set_option maxHeartbeats 1000000 in
theorem e_v54 : A_v54 m c = Host.dotGeneral dot_S8x768x1536_S2048x8x1536_S8x768x2048_2_2_1_0_0_1 none (A_arg7 m c) (A_v53 m c) :=
  rv_binary m c 106 rfl (by decide) (by decide) (by decide)

set_option maxHeartbeats 1000000 in
theorem e_v55 : A_v55 m c = (transpose S2048x8x768 [2, 0, 1] (A_v54 m c) transposes_S8x768x2048_S2048x8x768_2_0_1) :=
  rv_unary m c 107 rfl (by decide) (by decide)

set_option maxHeartbeats 1000000 in
theorem e_v56 : A_v56 m c = Host.dotGeneral dot_S2048x8x768_S2048x8_S2048x768_1_1_2_n_0_0 none (A_v55 m c) (A_v49 m c) :=
  rv_binary m c 108 rfl (by decide) (by decide) (by decide)

set_option maxHeartbeats 1000000 in
theorem e_v57 : A_v57 m c = addf (A_v9 m c) (A_v56 m c) :=
  rv_binary m c 109 rfl (by decide) (by decide) (by decide)

set_option maxHeartbeats 1000000 in
theorem e_v58 : A_v58 m c = shapeCast _ (A_v57 m c) shapeCasts_S2048x768_S1x2048x768 :=
  rv_reshape m c 110 rfl (by decide) (by decide)

end Cert.ReferenceIdeal.Run
end
-- ==== Proof.RefAt.lean ====
/- The reference's values at an index. -/
module

public import proofs.«01_k».proof.Proof.RefVals
public import proofs.«01_k».proof.Proof.RouterAt
public import proofs.«01_k».proof.Proof.Ffn
public import Idealize.ShloMosaic.Lib.Pointwise

@[expose] public section

set_option maxRecDepth 16384

noncomputable section

namespace Cert.Math

open Idealize.ShloMosaic Idealize.ShloMosaic.TcCoe
open Idealize.SL.Sem
open Cert.ReferenceIdeal Cert.ReferenceIdeal.Gen Cert.ReferenceIdeal.Run
local notation "ii" => Idealize.ShloMosaic.ix2
variable (m : (ℓ : Loc nD τ sig) → Buf (Elt Ideal) ℓ) (c : Dev nD) (t : Fin 2048) (e : Fin 8) (h : Fin 768) (k : Fin 2)

/-- The scores the reference ranks token `t`'s experts by. -/
abbrev scoreR : Fin 8 → EReal := score (A_v0 m c) (A_arg1 m c) t

theorem v22_at : A_v22 m c (ii t e) = scoreR m c t e := by
  rw [e_v22, e_v21, e_v20, e_v19, e_v18, e_v17, e_v16, e_v15, e_v14, e_v13, e_v12, e_v11, e_v10, e_cst_1, e_cst_2, e_cst_3]
  pointwise
  rw [Cert.Num.cNegInf]
  simp only [max_bot_left]
  rfl

theorem act_neg (a b : EReal) : a * Ideal.div 1 (1 + Ideal.exp (-a)) * b = act a b := by unfold act; rw [zero_sub]

theorem div_by_one (a : EReal) : Ideal.div a 1 = a := by
  unfold Ideal.div
  simp

theorem v9_at : A_v9 m c (ii t h) = ffn (fun d => A_v0 m c (ii t d)) (fun k d => A_arg2 m c (ix3 0 k d)) (fun k d => A_arg3 m c (ix3 0 k d)) (fun h k => A_arg4 m c (ix3 0 h k)) h := by
  rw [e_v9, e_v8, e_v7, e_v6, e_v5, e_v4, e_v3, e_call0_v5, e_call0_v4, e_call0_v3, e_call0_v2, e_call0_v1, e_call0_v0, e_call0_cst, e_call0_cst_0, e_v2, e_v1, e_cst, e_cst_0]
  pointwise
  simp only [act_neg]
  rw [div_by_one, Fin.sum_univ_one]
  unfold ffn
  exact Finset.sum_congr rfl fun k _ => mul_comm _ _

/-- One expert's result for token `t`, as the reference's inputs give it. -/
def expertR (e : Fin 8) : EReal :=
  ffn (fun d => A_v0 m c (ii t d)) (fun k d => A_arg5 m c (ix3 e k d)) (fun k d => A_arg6 m c (ix3 e k d)) (fun h k => A_arg7 m c (ix3 e h k)) h

theorem v56_at : A_v56 m c (ii t h) = ∑ e : Fin 8, expertR m c t h e * A_v49 m c (ii t e) := by
  rw [e_v56, e_v55, e_v54, e_v53, e_v52, e_call2_v5, e_call2_v4, e_call2_v3, e_call2_v2, e_call2_v1, e_call2_v0, e_call2_cst, e_call2_cst_0, e_v50, e_v51]
  pointwise
  simp only [act_neg]
  refine Finset.sum_congr rfl fun e _ => congrArg (· * A_v49 m c (ii t e)) ?_
  unfold expertR ffn
  exact Finset.sum_congr rfl fun k _ => mul_comm _ _

theorem v58_at : A_v58 m c (ix3 0 t h) = A_v9 m c (ii t h) + A_v56 m c (ii t h) := by
  rw [e_v58, e_v57]
  pointwise

theorem v31_at : A_v31 m c (ii t k) = Ideal.div (A_v23 m c (ii t k)) ((∑ k : Fin 2, A_v23 m c (ii t k)) + (eps : EReal)) := by
  rw [e_v31, e_v30, e_v29, e_v28, e_v27, e_v26, e_v25, e_v24, e_cst_4, e_cst_5, e_cst_6]
  pointwise
  rw [eps_eq]

/-! ## The ranked experts -/

theorem topk_at (v : FVec Ideal S2048x8 .f32) (w) :
    (Host.topK S2048x2 1 (FloatOps.cmpfTotal (F := Ideal) .gt) v w).2 (ii t k) = BitVec.ofNat 32 (place (fun e => v (ii t e)) ⟨k, by have := k.isLt; omega⟩) := by
  unfold Host.topK Host.sort2
  have hr : 1 < S2048x8.rank := by decide
  simp only [dif_pos hr]
  obtain ⟨j, hj⟩ : ∃ j : S2048x8.Idx, j = ii t (⟨k, by have := k.isLt; omega⟩ : Fin 8) := ⟨_, rfl⟩
  have hs : ∀ y : IVec S2048x8 32, extractStridedSlice S2048x2 (fun _ => 0) y w (ii t k) = y j := by
    intro y; rw [hj]; pointwise
  rw [hs]
  have hal : ∀ e : Fin 8, j.along (⟨1, hr⟩ : Fin S2048x8.rank) e = ii t e := by
    intro e; rw [hj]; funext a; fin_cases a <;> rfl
  have hj1 : (j (⟨1, hr⟩ : Fin S2048x8.rank) : Fin 8) = (⟨k, by have := k.isLt; omega⟩ : Fin 8) := by rw [hj]; rfl
  refine congrArg (fun z : Fin 8 => BitVec.ofNat 32 (z : ℕ)) (?_ : sortedFrom _ _ = place _ _)
  unfold place
  rw [hj1]
  refine congrArg (fun f : Fin 8 → Fin 8 → Bool => sortedFrom f _) ?_
  funext x y
  refine (congrArg₂ (fun a b => (FloatOps.cmpfTotal (F := Ideal) (φ := .f32) .gt (v a) (v b) == 1#1)) (hal x) (hal y)).trans ?_
  show (BitVec.ofBool (decide (v (ii t y) < v (ii t x))) == 1#1) = _
  cases decide (v (ii t y) < v (ii t x)) <;> rfl

theorem idx_at : A_indices m c (ii t k) = BitVec.ofNat 32 (place (scoreR m c t) ⟨k, by have := k.isLt; omega⟩) := by
  rw [e_indices]
  refine (topk_at t k _ _).trans ?_
  rw [show (fun e => A_v22 m c (ii t e)) = scoreR m c t from funext fun e => v22_at m c t e]

theorem call1_v5_at (z : Fin 1) : A_call1_v5 m c (ix3 t k z) = A_indices m c (ii t k) := by
  rw [e_call1_v5, e_call1_v4, e_call1_v3, e_call1_v2, e_call1_v1, e_call1_v0, e_call1_c, e_call1_c_0]
  pointwise
  rw [idx_at]
  generalize place (scoreR m c t) _ = e
  revert e; decide

theorem gather_si : gather_S2048x8_S2048x2x1_S2048x2_n_1_0_0_1_2_11.siIdx (ii t k) ⟨0, by decide⟩ = ix3 t k 0 := by
  funext b
  fin_cases b
  · with_unfolding_all rfl
  · with_unfolding_all rfl
  · with_unfolding_all rfl

theorem gather_at (x : FVec Ideal S2048x8 .f32) (idx : IVec S2048x2x1 32) (p : Fin 8) (hi : idx (ix3 t k 0) = BitVec.ofNat 32 p) :
    Host.gather gather_S2048x8_S2048x2x1_S2048x2_n_1_0_0_1_2_11 x idx (ii t k) = x (ii t p) := by
  refine congrArg x ?_
  funext a
  fin_cases a
  · refine Fin.ext ?_
    exact Eq.trans (b := 0 + (t : ℕ) + 0) (by with_unfolding_all rfl) (by show 0 + (t : ℕ) + 0 = (t : ℕ); omega)
  · refine Fin.ext ?_
    show min (idx (gather_S2048x8_S2048x2x1_S2048x2_n_1_0_0_1_2_11.siIdx (ii t k) ⟨0, by decide⟩)).toInt.toNat 7 + 0 + 0 = (p : ℕ)
    rw [gather_si, hi, toInt_word _ (by have := p.isLt; omega)]
    have := p.isLt
    omega

theorem v23_at : A_v23 m c (ii t k) = scoreR m c t (place (scoreR m c t) ⟨k, by have := k.isLt; omega⟩) := by
  have hk : ∀ z : Fin 1, A_call1_v5 m c (ix3 t k z) = BitVec.ofNat 32 (place (scoreR m c t) ⟨k, by have := k.isLt; omega⟩) :=
    fun z => (call1_v5_at m c t k z).trans (idx_at m c t k)
  rw [e_v23, e_call1_v14, e_call1_cst, e_call1_v13, e_call1_v12, e_call1_c_3, e_call1_v11, e_call1_v10, e_call1_v9, e_call1_v8, e_call1_v7, e_call1_v6, e_call1_c_1, e_call1_c_2]
  pointwise
  simp only [hk]
  generalize hp : place (scoreR m c t) _ = p at hk ⊢
  have hbit : ∀ p : Fin 8, (Finset.univ : Finset (Fin 1)).fold IntOp.andi (1#1) (fun x => IntOp.andi (IntOp.cmpi CmpIPredicate.sge (BitVec.ofNat 32 (p : ℕ)) 0#32) (IntOp.cmpi CmpIPredicate.sle (BitVec.ofNat 32 (p : ℕ)) 7#32)) = 1#1 := by
    decide
  rw [hbit p, pick_one, if_pos rfl]
  exact (gather_at t k _ _ p (hk 0)).trans (v22_at m c t p)

theorem v39_at (z : Fin 1) : A_v39 m c (ii t z) = BitVec.ofNat 32 t := by
  rw [e_v39, e_v38, e_v37, e_v36, e_v35, e_v34, e_v33, e_c_8, e_c]
  pointwise
  have e : IntOp.cmpi .slt (BitVec.ofNat 32 (t : ℕ)) 0#32 = 0#1 := by
    show BitVec.ofBool (BitVec.slt _ _) = _
    rw [BitVec.slt_eq_decide, toInt_word _ (by have := t.isLt; omega), decide_eq_false]
    · rfl
    · show ¬ ((t : ℕ) : ℤ) < (0#32 : BitVec 32).toInt
      have : (0#32 : BitVec 32).toInt = 0 := by decide
      omega
  rw [e]; rfl

theorem v48_fst : A_v48 m c (ix3 t k 0) = BitVec.ofNat 32 t := by
  rw [e_v48, e_v47, e_v46, e_v45, e_v44, e_v43, e_v42, e_c_10]
  pointwise
  exact v39_at m c t 0
theorem v48_snd : A_v48 m c (ix3 t k 1) = BitVec.ofNat 32 (place (scoreR m c t) ⟨k, by have := k.isLt; omega⟩) := by
  rw [e_v48, e_v47, e_v46, e_v45, e_v44, e_v43, e_v42, e_v41, e_v40, e_c_10, e_c_9]
  pointwise
  rw [idx_at]
  generalize place (scoreR m c t) _ = e
  revert e; decide

theorem scatter_si0 : scatter_S2048x8_S2048x2x2_S2048x2_n_01_01_2.siIdx (ii t k) ⟨0, by decide⟩ = ix3 t k 0 := by
  funext b
  fin_cases b
  · with_unfolding_all rfl
  · with_unfolding_all rfl
  · with_unfolding_all rfl
theorem scatter_si1 : scatter_S2048x8_S2048x2x2_S2048x2_n_01_01_2.siIdx (ii t k) ⟨1, by decide⟩ = ix3 t k 1 := by
  funext b
  fin_cases b
  · with_unfolding_all rfl
  · with_unfolding_all rfl
  · with_unfolding_all rfl

theorem land_at (idx : IVec S2048x2x2 32) (p : Fin 8) (h0 : idx (ix3 t k 0) = BitVec.ofNat 32 t) (h1 : idx (ix3 t k 1) = BitVec.ofNat 32 p) :
    scatter_S2048x8_S2048x2x2_S2048x2_n_01_01_2.resultIdx? (ii t k) idx = some (ii t p) := by
  have s0 : scatter_S2048x8_S2048x2x2_S2048x2_n_01_01_2.start (ii t k) idx (0 : Fin 2) + scatter_S2048x8_S2048x2x2_S2048x2_n_01_01_2.window (ii t k) (0 : Fin 2) = (t : ℤ) := by
    show (idx (scatter_S2048x8_S2048x2x2_S2048x2_n_01_01_2.siIdx (ii t k) ⟨0, by decide⟩)).toInt + ((0 : ℕ) : ℤ) = _
    rw [scatter_si0, h0, toInt_word _ (by have := t.isLt; omega)]; simp
  have s1 : scatter_S2048x8_S2048x2x2_S2048x2_n_01_01_2.start (ii t k) idx (1 : Fin 2) + scatter_S2048x8_S2048x2x2_S2048x2_n_01_01_2.window (ii t k) (1 : Fin 2) = (p : ℤ) := by
    show (idx (scatter_S2048x8_S2048x2x2_S2048x2_n_01_01_2.siIdx (ii t k) ⟨1, by decide⟩)).toInt + ((0 : ℕ) : ℤ) = _
    rw [scatter_si1, h1, toInt_word _ (by have := p.isLt; omega)]; simp
  unfold ScatterDims.resultIdx?
  have ht := t.isLt
  have hp := p.isLt
  rw [dif_pos]
  · refine congrArg some ?_
    funext a
    fin_cases a
    · refine Fin.ext ?_
      refine (congrArg Int.toNat s0).trans ?_
      simp
    · refine Fin.ext ?_
      refine (congrArg Int.toNat s1).trans ?_
      simp
  · intro a
    fin_cases a
    · refine ⟨le_of_le_of_eq ?_ s0.symm, lt_of_eq_of_lt s0 ?_⟩
      · omega
      · show (t : ℤ) < ((2048 : ℕ) : ℤ); omega
    · refine ⟨le_of_le_of_eq ?_ s1.symm, lt_of_eq_of_lt s1 ?_⟩
      · omega
      · show (p : ℤ) < ((8 : ℕ) : ℤ); omega

/-- The reference's weight table. -/
theorem v49_at : A_v49 m c (ii t e) = ∑ k : Fin 2, if place (scoreR m c t) ⟨k, by have := k.isLt; omega⟩ = e then A_v31 m c (ii t k) else 0 := by
  rw [e_v49, e_v32, e_cst_7]
  show (_ : EReal) + ∑ j ∈ Finset.univ.filter (fun j => scatter_S2048x8_S2048x2x2_S2048x2_n_01_01_2.resultIdx? j (A_v48 m c) = some (ii t e)), A_v31 m c j = _
  have hz : (broadcastInDim S2048x8 ![] bcast_S_S2048x8 (constant (F := Ideal) S_ FTy.f32 0#32) (ii t e) : EReal) = 0 := by pointwise
  rw [hz, zero_add, ← Finset.sum_filter]
  have hl : ∀ (t : Fin 2048) (k : Fin 2), scatter_S2048x8_S2048x2x2_S2048x2_n_01_01_2.resultIdx? (ii t k) (A_v48 m c) = some (ii t (place (scoreR m c t) ⟨k, by have := k.isLt; omega⟩)) :=
    fun t k => land_at t k _ _ (v48_fst m c t k) (v48_snd m c t k)
  have hj : ∀ j : S2048x2.Idx, ∃ (t' : Fin 2048) (k' : Fin 2), j = ii t' k' := fun j => ⟨j (0 : Fin 2), j (1 : Fin 2), by funext a; fin_cases a <;> rfl⟩
  have hin : ∀ (t' : Fin 2048) (k' : Fin 2), scatter_S2048x8_S2048x2x2_S2048x2_n_01_01_2.resultIdx? (ii t' k') (A_v48 m c) = some (ii t e) →
      t' = t ∧ place (scoreR m c t) ⟨k', by have := k'.isLt; omega⟩ = e := by
    intro t' k' h
    rw [hl] at h
    have h' := Option.some.inj h
    have e0 : t' = t := congrFun h' (0 : Fin 2)
    have e1 : place (scoreR m c t') ⟨k', by have := k'.isLt; omega⟩ = e := congrFun h' (1 : Fin 2)
    rw [e0] at e1
    exact ⟨e0, e1⟩
  refine Finset.sum_bij' (fun (j : S2048x2.Idx) _ => (j (1 : Fin 2) : Fin 2)) (fun k _ => ii t k) ?_ ?_ ?_ ?_ ?_
  · intro j h
    obtain ⟨t', k', rfl⟩ := hj j
    exact Finset.mem_filter.2 ⟨Finset.mem_univ _, (hin t' k' (Finset.mem_filter.1 h).2).2⟩
  · intro k h
    refine Finset.mem_filter.2 ⟨Finset.mem_univ _, ?_⟩
    rw [hl, (Finset.mem_filter.1 h).2]
  · intro j h
    obtain ⟨t', k', rfl⟩ := hj j
    have e0 := (hin t' k' (Finset.mem_filter.1 h).2).1
    exact congrArg (fun t => ii t k') e0.symm
  · intro k h; rfl
  · intro j h
    obtain ⟨t', k', rfl⟩ := hj j
    have e0 := (hin t' k' (Finset.mem_filter.1 h).2).1
    exact congrArg (fun t => A_v31 m c (ii t k')) e0

/-- The weights the reference's table holds are the two chosen experts'. -/
theorem table_eq : A_v49 m c (ii t e) = (if best (scoreR m c t) = e then bestW eps (scoreR m c t) else 0) + (if next (scoreR m c t) = e then nextW eps (scoreR m c t) else 0) := by
  rw [v49_at, ← weights_eq eps (scoreR m c t) (soft_cases _) e]
  refine Finset.sum_congr rfl fun k _ => ?_
  have h : A_v31 m c (ii t k) = placeW eps (scoreR m c t) k := by
    refine (v31_at m c t k).trans ?_
    exact congrArg₂ Ideal.div (v23_at m c t k) (congrArg (· + (eps : EReal)) (Finset.sum_congr rfl fun k _ => v23_at m c t k))
  rw [h]

/-- The reference's result for token `t`. -/
theorem result_at : A_v58 m c (ix3 0 t h) = ffn (fun d => A_v0 m c (ii t d)) (fun k d => A_arg2 m c (ix3 0 k d)) (fun k d => A_arg3 m c (ix3 0 k d)) (fun h k => A_arg4 m c (ix3 0 h k)) h
    + ∑ e : Fin 8, expertR m c t h e * ((if best (scoreR m c t) = e then bestW eps (scoreR m c t) else 0) + (if next (scoreR m c t) = e then nextW eps (scoreR m c t) else 0)) := by
  rw [v58_at, v9_at, v56_at]
  refine congrArg (_ + ·) (Finset.sum_congr rfl fun e _ => ?_)
  rw [table_eq]

end Cert.Math
end
-- ==== Proof.Equal.lean ====
/- The kernel's result and the reference's are the same tensor. -/
module

public import proofs.«01_k».proof.Proof.Routed
public import proofs.«01_k».proof.Proof.RefAt

@[expose] public section

set_option maxRecDepth 16384

noncomputable section

namespace Cert.Math

open Idealize.ShloMosaic Idealize.ShloMosaic.TcCoe
open Idealize.SL.Sem
local notation "ii" => Idealize.ShloMosaic.ix2

/-- Each token takes its two best experts, and no others: the reference's sum over all experts has two terms. -/
theorem spread (ε : ℝ) (s f : Fin 8 → EReal) (hs : (∀ e, 0 ≤ s e ∧ s e ≤ 1) ∨ ∀ e, s e = ⊥) :
    (∑ e : Fin 8, f e * ((if best s = e then bestW ε s else 0) + (if next s = e then nextW ε s else 0)))
      = f (best s) * bestW ε s + f (next s) * nextW ε s := by
  rcases hs with hs | hs
  · have hne : next s ≠ best s := by
      unfold best next
      rw [place_one s (fun e => (hs e).1) (fun e => (hs e).2), place_zero s]
      exact fun h => absurd (place_inj s h) (by decide)
    have hf : ∀ e : Fin 8, f e * ((if best s = e then bestW ε s else 0) + (if next s = e then nextW ε s else 0))
        = (if best s = e then f e * bestW ε s else 0) + (if next s = e then f e * nextW ε s else 0) := fun e => by
      by_cases h1 : best s = e
      · have h2 : next s ≠ e := h1 ▸ hne
        rw [if_pos h1, if_pos h1, if_neg h2, if_neg h2, add_zero, add_zero]
      · rw [if_neg h1, if_neg h1, zero_add, zero_add]
        by_cases h2 : next s = e
        · rw [if_pos h2, if_pos h2]
        · rw [if_neg h2, if_neg h2, mul_zero]
    rw [Finset.sum_congr rfl fun e _ => hf e, Finset.sum_add_distrib, Finset.sum_ite_eq, Finset.sum_ite_eq, if_pos (Finset.mem_univ _), if_pos (Finset.mem_univ _)]
  · have ht : top s = ⊥ := le_bot_iff.1 (top_le s _ fun e => (hs e).le)
    have hd : ∀ x : EReal, Ideal.div x (⊥ : EReal) = 0 := fun x => by simp [Ideal.div]
    have h1 : bestW ε s = 0 := by unfold bestW; rw [ht, EReal.bot_add, EReal.bot_add, hd]
    have h2 : nextW ε s = 0 := by unfold nextW; rw [ht, EReal.bot_add, EReal.bot_add, hd]
    simp only [h1, h2, ite_self, add_zero, mul_zero, Finset.sum_const_zero]

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two programs are given the same arguments on chip `c`. -/
structure Agree : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

variable {m m' c}
open Cert.ReferenceIdeal.Run Cert.KernelIdeal.Run

theorem Agree.e0 (H : Agree m m' c) : A_arg0 m' c = (m ((c.tc : Thread Cert.KernelIdeal.nD Cert.KernelIdeal.τ).loc Cert.KernelIdeal.main_arg0) : FVec Ideal Cert.KernelIdeal.S1x2048x768 .f32) :=
  (rv_arg m' c (r := Cert.ReferenceIdeal.main_arg0) (by decide)).trans H.a0

theorem Agree.e1 (H : Agree m m' c) : A_arg1 m' c = (m ((c.tc : Thread Cert.KernelIdeal.nD Cert.KernelIdeal.τ).loc Cert.KernelIdeal.main_arg1) : FVec Ideal Cert.KernelIdeal.S8x768 .f32) :=
  (rv_arg m' c (r := Cert.ReferenceIdeal.main_arg1) (by decide)).trans H.a1

theorem Agree.e2 (H : Agree m m' c) : A_arg2 m' c = (m ((c.tc : Thread Cert.KernelIdeal.nD Cert.KernelIdeal.τ).loc Cert.KernelIdeal.main_arg2) : FVec Ideal Cert.KernelIdeal.S1x1536x768 .f32) :=
  (rv_arg m' c (r := Cert.ReferenceIdeal.main_arg2) (by decide)).trans H.a2

theorem Agree.e3 (H : Agree m m' c) : A_arg3 m' c = (m ((c.tc : Thread Cert.KernelIdeal.nD Cert.KernelIdeal.τ).loc Cert.KernelIdeal.main_arg3) : FVec Ideal Cert.KernelIdeal.S1x1536x768 .f32) :=
  (rv_arg m' c (r := Cert.ReferenceIdeal.main_arg3) (by decide)).trans H.a3

theorem Agree.e4 (H : Agree m m' c) : A_arg4 m' c = (m ((c.tc : Thread Cert.KernelIdeal.nD Cert.KernelIdeal.τ).loc Cert.KernelIdeal.main_arg4) : FVec Ideal Cert.KernelIdeal.S1x768x1536 .f32) :=
  (rv_arg m' c (r := Cert.ReferenceIdeal.main_arg4) (by decide)).trans H.a4

theorem Agree.e5 (H : Agree m m' c) : A_arg5 m' c = (m ((c.tc : Thread Cert.KernelIdeal.nD Cert.KernelIdeal.τ).loc Cert.KernelIdeal.main_arg5) : FVec Ideal Cert.KernelIdeal.S8x1536x768 .f32) :=
  (rv_arg m' c (r := Cert.ReferenceIdeal.main_arg5) (by decide)).trans H.a5

theorem Agree.e6 (H : Agree m m' c) : A_arg6 m' c = (m ((c.tc : Thread Cert.KernelIdeal.nD Cert.KernelIdeal.τ).loc Cert.KernelIdeal.main_arg6) : FVec Ideal Cert.KernelIdeal.S8x1536x768 .f32) :=
  (rv_arg m' c (r := Cert.ReferenceIdeal.main_arg6) (by decide)).trans H.a6

theorem Agree.e7 (H : Agree m m' c) : A_arg7 m' c = (m ((c.tc : Thread Cert.KernelIdeal.nD Cert.KernelIdeal.τ).loc Cert.KernelIdeal.main_arg7) : FVec Ideal Cert.KernelIdeal.S8x768x1536 .f32) :=
  (rv_arg m' c (r := Cert.ReferenceIdeal.main_arg7) (by decide)).trans H.a7

theorem Agree.x (H : Agree m m' c) : A_v0 m' c = X m c :=
  (e_v0 m' c).trans (congrArg (fun a => shapeCast _ a Cert.ReferenceIdeal.Gen.shapeCasts_S1x2048x768_S2048x768) H.e0)

theorem Agree.g (H : Agree m m' c) : A_arg1 m' c = GW m c := H.e1

theorem Agree.expert (H : Agree m m' c) (t : Fin 2048) (h : Fin 768) (e : Fin 8) : expertR m' c t h e = expertV m c e t h := by
  unfold expertR expertV
  rw [H.x, H.e5, H.e6, H.e7]

theorem Agree.at (H : Agree m m' c) (t : Fin 2048) (h : Fin 768) : A_v58 m' c (ix3 0 t h) = outV m c (ii t h) := by
  rw [result_at, spread _ (scoreR m' c t) _ (soft_cases _), H.expert, H.expert, add_comm]
  unfold scoreR
  rw [H.x, H.g, H.e2, H.e3, H.e4]
  rfl

/-- The kernel's result is the reference's. -/
theorem Agree.result (H : Agree m m' c) : A_v58 m' c = (W7 m (ok2_ideal m) c Cert.KernelIdeal.main_v7 : FVec Ideal Cert.KernelIdeal.S1x2048x768 .f32) := by
  funext j
  have hj : j = ix3 0 (j 1) (j 2) := by
    funext a
    match a with
    | 0 => exact Subsingleton.elim (α := Fin 1) _ _
    | 1 => rfl
    | 2 => rfl
  rw [hj]
  exact (H.at (j 1) (j 2)).trans (W7_v7 m c (j 1) (j 2)).symm

end Cert.Math
end
-- ==== Proof.lean ====
/- The proof of the certificate's claim. -/
module

public import proofs.«01_k».proof.Defs
public import proofs.«01_k».proof.Proof.KFrames
public import proofs.«01_k».proof.Proof.IFrames
public import proofs.«01_k».proof.Proof.RFrames
public import proofs.«01_k».proof.Proof.Equal

@[expose] public section

noncomputable section

namespace Cert.Proof

open Idealize.ShloMosaic Idealize.ShloMosaic.TcCoe Idealize.SL.Sem

/-- On equal arguments the kernel and the reference end with the same result. -/
theorem algebraic : Cert.algebraic_KernelIdeal_ReferenceIdeal := by
  intro m g m' g' _ hagree
  refine ⟨fun c => Cert.KernelIdeal.Run.W7 m (Cert.KernelIdeal.Run.ok2_ideal m) c Cert.KernelIdeal.main_v7,
    (θ_run Cert.KernelIdeal.defs _ _).mono (fun _ h c => h.1 c) (Cert.KernelIdeal.Run.run_main (F := Ideal) m (Cert.KernelIdeal.Run.ok2_ideal m) g), ?_⟩
  refine (θ_run Cert.ReferenceIdeal.defs _ _).mono ?_ (Cert.ReferenceIdeal.Run.run m' g')
  intro _ h c
  have H : Cert.Math.Agree m m' c := by
    obtain ⟨h0, h1, h2, h3, h4, h5, h6, h7⟩ := hagree c
    exact ⟨h0, h1, h2, h3, h4, h5, h6, h7⟩
  exact ⟨(h c Cert.ReferenceIdeal.main_v58).trans H.result,
    (h c _).trans (Cert.ReferenceIdeal.Run.rv_arg m' c (by decide)),
    (h c _).trans (Cert.ReferenceIdeal.Run.rv_arg m' c (by decide)),
    (h c _).trans (Cert.ReferenceIdeal.Run.rv_arg m' c (by decide)),
    (h c _).trans (Cert.ReferenceIdeal.Run.rv_arg m' c (by decide)),
    (h c _).trans (Cert.ReferenceIdeal.Run.rv_arg m' c (by decide)),
    (h c _).trans (Cert.ReferenceIdeal.Run.rv_arg m' c (by decide)),
    (h c _).trans (Cert.ReferenceIdeal.Run.rv_arg m' c (by decide)),
    (h c _).trans (Cert.ReferenceIdeal.Run.rv_arg m' c (by decide))⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
